-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_as_initialised [hPre_as_initialised : Cert.Pre_as_initialised.Facts] (m : (ℓ : Loc Cert.KernelIdeal.nD Cert.KernelIdeal.τ Cert.KernelIdeal.sig) → Buf (Elt Ideal) ℓ) : Prop :=
  ∀ c : Dev Cert.KernelIdeal.nD,
    (Cert.Pre_as_initialised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_as_initialised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 = (fun _ => 1#1)
    ∧ (Cert.Pre_as_initialised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.1 = (fun _ => 1#1)
    ∧ (Cert.Pre_as_initialised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.1 = (fun _ => 1#1)
    ∧ (Cert.Pre_as_initialised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.1 = (fun _ => 1#1)
    ∧ (Cert.Pre_as_initialised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.1 = (fun _ => 1#1)
    ∧ (Cert.Pre_as_initialised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.1 = (fun _ => 1#1)
    ∧ (Cert.Pre_as_initialised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.1 = (fun _ => 1#1)
    ∧ (Cert.Pre_as_initialised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.1 = (fun _ => 1#1)
    ∧ (Cert.Pre_as_initialised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.1 = (fun _ => 1#1)
    ∧ (Cert.Pre_as_initialised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.1 = (fun _ => 1#1)
    ∧ (Cert.Pre_as_initialised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.1 = (fun _ => 1#1)
    ∧ (Cert.Pre_as_initialised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.1 = (fun _ => 1#1)
    ∧ (Cert.Pre_as_initialised.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_as_initialised [hPre_as_initialised : Cert.Pre_as_initialised.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_as_initialised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_as_initialised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.1 = (fun _ => 1#1)
    ∧ (Cert.Pre_as_initialised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.1 = (fun _ => 1#1)
    ∧ (Cert.Pre_as_initialised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.1 = (fun _ => 1#1)
    ∧ (Cert.Pre_as_initialised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.1 = (fun _ => 1#1)
    ∧ (Cert.Pre_as_initialised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.1 = (fun _ => 1#1)
    ∧ (Cert.Pre_as_initialised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.1 = (fun _ => 1#1)
    ∧ (Cert.Pre_as_initialised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.1 = (fun _ => 1#1)
    ∧ (Cert.Pre_as_initialised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.1 = (fun _ => 1#1)
    ∧ (Cert.Pre_as_initialised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.1 = (fun _ => 1#1)
    ∧ (Cert.Pre_as_initialised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.1 = (fun _ => 1#1)
    ∧ (Cert.Pre_as_initialised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.1 = (fun _ => 1#1)
    ∧ (Cert.Pre_as_initialised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.1 = (fun _ => 1#1)
    ∧ (Cert.Pre_as_initialised.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_as_initialised [hKernelIdeal : Cert.KernelIdeal.Facts] [hPre_as_initialised : Cert.Pre_as_initialised.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_as_initialised m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_as_initialised [hReferenceIdeal : Cert.ReferenceIdeal.Facts] [hPre_as_initialised : Cert.Pre_as_initialised.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_as_initialised m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "log2e_over_root" .f32 0x3EBEB89E#32 (((Real.log 2)⁻¹ * (Real.sqrt 15)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "inv_89" .f32 0x3C381703#32 ((1 / 89 : ℝ) : EReal)

def algebraic_KernelIdeal_ReferenceIdeal_pre_as_initialised [hKernelIdeal : Cert.KernelIdeal.Facts] [hReferenceIdeal : Cert.ReferenceIdeal.Facts] [hPre_as_initialised : Cert.Pre_as_initialised.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_as_initialised m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_as_initialised : Cert.Pre_as_initialised.Facts),
    quiescent_Kernel (hKernel := hKernel)
    ∧ quiescent_KernelIdeal (hKernelIdeal := hKernelIdeal)
    ∧ quiescent_KernelIdeal_pre_as_initialised (hKernelIdeal := hKernelIdeal) (hPre_as_initialised := hPre_as_initialised)
    ∧ quiescent_ReferenceIdeal (hReferenceIdeal := hReferenceIdeal)
    ∧ quiescent_ReferenceIdeal_pre_as_initialised (hReferenceIdeal := hReferenceIdeal) (hPre_as_initialised := hPre_as_initialised)
    ∧ preserves_Kernel_KernelIdeal
    ∧ algebraic_KernelIdeal_ReferenceIdeal_pre_as_initialised (hKernelIdeal := hKernelIdeal) (hReferenceIdeal := hReferenceIdeal) (hPre_as_initialised := hPre_as_initialised)
-- ==== Pre_as_initialised.lean ====
abbrev S512x90x90 : Shape := ⟨3, ![512, 90, 90]⟩
abbrev S90x90 : Shape := ⟨2, ![90, 90]⟩
abbrev S90 : Shape := ⟨1, ![90]⟩
abbrev S90x180 : Shape := ⟨2, ![90, 180]⟩
abbrev S180 : Shape := ⟨1, ![180]⟩
abbrev S180x90 : Shape := ⟨2, ![180, 90]⟩
abbrev S_ : Shape := ⟨0, ![]⟩

class Facts : Prop where
  bcast_S_S512x90x90 : S_.BroadcastsInDim S512x90x90 (![] : Fin 0 → Fin S512x90x90.rank)
  bcast_S_S90x90 : S_.BroadcastsInDim S90x90 (![] : Fin 0 → Fin S90x90.rank)
  bcast_S_S90 : S_.BroadcastsInDim S90 (![] : Fin 0 → Fin S90.rank)
  bcast_S_S180 : S_.BroadcastsInDim S180 (![] : Fin 0 → Fin S180.rank)

variable [Facts]

def fn_part1 {F : FTy → Type} [FloatOps F] (main_arg9 : FVec F S90 .f32) (main_arg10 : FVec F S90 .f32) (main_arg11 : FVec F S90 .f32) (main_arg12 : FVec F S90 .f32) (main_arg13 : FVec F S90 .f32) (main_arg15 : FVec F S180 .f32) (main_arg17 : FVec F S90 .f32) (main_v2 : IVec S512x90x90 1) (main_v4 : IVec S512x90x90 1) (main_v7 : IVec S90x90 1) (main_v10 : IVec S90x90 1) (main_v12 : IVec S90 1) (main_v14 : IVec S90 1) (main_v16 : IVec S90 1) : IVec S512x90x90 1 × IVec S512x90x90 1 × IVec S90x90 1 × IVec S90x90 1 × IVec S90 1 × IVec S90 1 × IVec S90 1 × IVec S90 1 × IVec S90 1 × IVec S90 1 × IVec S90 1 × IVec S90 1 × IVec S180 1 × IVec S90 1 :=
  let main_cst_6 : FVec F S_ .f32 := constant S_ .f32 0x00000000#32
  let main_v17 : FVec F S90 .f32 := broadcastInDim S90 ![] bcast_S_S90 main_cst_6
  let main_v18 : IVec S90 1 := cmpf .oeq main_arg9 main_v17
  let main_cst_7 : FVec F S_ .f32 := constant S_ .f32 0x3F800000#32
  let main_v19 : FVec F S90 .f32 := broadcastInDim S90 ![] bcast_S_S90 main_cst_7
  let main_v20 : IVec S90 1 := cmpf .oeq main_arg10 main_v19
  let main_cst_8 : FVec F S_ .f32 := constant S_ .f32 0x00000000#32
  let main_v21 : FVec F S90 .f32 := broadcastInDim S90 ![] bcast_S_S90 main_cst_8
  let main_v22 : IVec S90 1 := cmpf .oeq main_arg11 main_v21
  let main_cst_9 : FVec F S_ .f32 := constant S_ .f32 0x3F800000#32
  let main_v23 : FVec F S90 .f32 := broadcastInDim S90 ![] bcast_S_S90 main_cst_9
  let main_v24 : IVec S90 1 := cmpf .oeq main_arg12 main_v23
  let main_cst_10 : FVec F S_ .f32 := constant S_ .f32 0x00000000#32
  let main_v25 : FVec F S90 .f32 := broadcastInDim S90 ![] bcast_S_S90 main_cst_10
  let main_v26 : IVec S90 1 := cmpf .oeq main_arg13 main_v25
  let main_cst_11 : FVec F S_ .f32 := constant S_ .f32 0x00000000#32
  let main_v27 : FVec F S180 .f32 := broadcastInDim S180 ![] bcast_S_S180 main_cst_11
  let main_v28 : IVec S180 1 := cmpf .oeq main_arg15 main_v27
  let main_cst_12 : FVec F S_ .f32 := constant S_ .f32 0x00000000#32
  let main_v29 : FVec F S90 .f32 := broadcastInDim S90 ![] bcast_S_S90 main_cst_12
  let main_v30 : IVec S90 1 := cmpf .oeq main_arg17 main_v29
  (main_v2, main_v4, main_v7, main_v10, main_v12, main_v14, main_v16, main_v18, main_v20, main_v22, main_v24, main_v26, main_v28, main_v30)

def fn {F : FTy → Type} [FloatOps F] (main_arg0 : FVec F S512x90x90 .f32) (main_arg1 : FVec F S512x90x90 .f32) (main_arg2 : FVec F S90x90 .f32) (main_arg3 : FVec F S90 .f32) (main_arg4 : FVec F S90x90 .f32) (main_arg5 : FVec F S90 .f32) (main_arg6 : FVec F S90x90 .f32) (main_arg7 : FVec F S90 .f32) (main_arg8 : FVec F S90x90 .f32) (main_arg9 : FVec F S90 .f32) (main_arg10 : FVec F S90 .f32) (main_arg11 : FVec F S90 .f32) (main_arg12 : FVec F S90 .f32) (main_arg13 : FVec F S90 .f32) (main_arg14 : FVec F S90x180 .f32) (main_arg15 : FVec F S180 .f32) (main_arg16 : FVec F S180x90 .f32) (main_arg17 : FVec F S90 .f32) : IVec S512x90x90 1 × IVec S512x90x90 1 × IVec S90x90 1 × IVec S90x90 1 × IVec S90 1 × IVec S90 1 × IVec S90 1 × IVec S90 1 × IVec S90 1 × IVec S90 1 × IVec S90 1 × IVec S90 1 × IVec S180 1 × IVec S90 1 :=
  let main_v0 : FVec F S512x90x90 .f32 := Host.absf main_arg0
  let main_cst : FVec F S_ .f32 := constant S_ .f32 0x7F800000#32
  let main_v1 : FVec F S512x90x90 .f32 := broadcastInDim S512x90x90 ![] bcast_S_S512x90x90 main_cst
  let main_v2 : IVec S512x90x90 1 := cmpf .olt main_v0 main_v1
  let main_cst_0 : FVec F S_ .f32 := constant S_ .f32 0x7F800000#32
  let main_v3 : FVec F S512x90x90 .f32 := broadcastInDim S512x90x90 ![] bcast_S_S512x90x90 main_cst_0
  let main_v4 : IVec S512x90x90 1 := cmpf .olt main_arg1 main_v3
  let main_v5 : FVec F S90x90 .f32 := Host.absf main_arg2
  let main_cst_1 : FVec F S_ .f32 := constant S_ .f32 0x7F800000#32
  let main_v6 : FVec F S90x90 .f32 := broadcastInDim S90x90 ![] bcast_S_S90x90 main_cst_1
  let main_v7 : IVec S90x90 1 := cmpf .olt main_v5 main_v6
  let main_v8 : FVec F S90x90 .f32 := Host.absf main_arg4
  let main_cst_2 : FVec F S_ .f32 := constant S_ .f32 0x7F800000#32
  let main_v9 : FVec F S90x90 .f32 := broadcastInDim S90x90 ![] bcast_S_S90x90 main_cst_2
  let main_v10 : IVec S90x90 1 := cmpf .olt main_v8 main_v9
  let main_cst_3 : FVec F S_ .f32 := constant S_ .f32 0x00000000#32
  let main_v11 : FVec F S90 .f32 := broadcastInDim S90 ![] bcast_S_S90 main_cst_3
  let main_v12 : IVec S90 1 := cmpf .oeq main_arg3 main_v11
  let main_cst_4 : FVec F S_ .f32 := constant S_ .f32 0x00000000#32
  let main_v13 : FVec F S90 .f32 := broadcastInDim S90 ![] bcast_S_S90 main_cst_4
  let main_v14 : IVec S90 1 := cmpf .oeq main_arg5 main_v13
  let main_cst_5 : FVec F S_ .f32 := constant S_ .f32 0x00000000#32
  let main_v15 : FVec F S90 .f32 := broadcastInDim S90 ![] bcast_S_S90 main_cst_5
  let main_v16 : IVec S90 1 := cmpf .oeq main_arg7 main_v15
  fn_part1 (F := F) main_arg9 main_arg10 main_arg11 main_arg12 main_arg13 main_arg15 main_arg17 main_v2 main_v4 main_v7 main_v10 main_v12 main_v14 main_v16
-- ==== Kernel.lean ====
abbrev S512x90x90 : Shape := ⟨3, ![512, 90, 90]⟩
abbrev S90x90 : Shape := ⟨2, ![90, 90]⟩
abbrev S90 : Shape := ⟨1, ![90]⟩
abbrev S90x180 : Shape := ⟨2, ![90, 180]⟩
abbrev S180 : Shape := ⟨1, ![180]⟩
abbrev S180x90 : Shape := ⟨2, ![180, 90]⟩
abbrev S512x6x90x90 : Shape := ⟨4, ![512, 6, 90, 90]⟩
abbrev S32x90x90 : Shape := ⟨3, ![32, 90, 90]⟩
abbrev S32x6x90x90 : Shape := ⟨4, ![32, 6, 90, 90]⟩
abbrev S32x38x90 : Shape := ⟨3, ![32, 38, 90]⟩
abbrev S32x128x90 : Shape := ⟨3, ![32, 128, 90]⟩
abbrev S4096x90 : Shape := ⟨2, ![4096, 90]⟩
abbrev S1x90 : Shape := ⟨2, ![1, 90]⟩
abbrev S90x38 : Shape := ⟨2, ![90, 38]⟩
abbrev S128x90 : Shape := ⟨2, ![128, 90]⟩
abbrev S768x90 : Shape := ⟨2, ![768, 90]⟩
abbrev S90x768 : Shape := ⟨2, ![90, 768]⟩
abbrev S1x90x90 : Shape := ⟨3, ![1, 90, 90]⟩
abbrev S90x128 : Shape := ⟨2, ![90, 128]⟩
abbrev S90x1 : Shape := ⟨2, ![90, 1]⟩
abbrev S1x1x90x90 : Shape := ⟨4, ![1, 1, 90, 90]⟩
abbrev S6x90 : Shape := ⟨2, ![6, 90]⟩
abbrev S96x90 : Shape := ⟨2, ![96, 90]⟩
abbrev S3072x90 : Shape := ⟨2, ![3072, 90]⟩
abbrev S3072 : Shape := ⟨1, ![3072]⟩
abbrev S3072x1 : Shape := ⟨2, ![3072, 1]⟩
abbrev S3072x180 : Shape := ⟨2, ![3072, 180]⟩
abbrev S32x96x90 : Shape := ⟨3, ![32, 96, 90]⟩

abbrev nBuf : Space → Nat
  | .hbm => 20
  | .vmem => 14
  | .smem => 0
  | _ => 0

abbrev bufTy : (tb : Table) → Fin (tcTables nBuf tb) → BufTy
  | .hbm, ⟨0, _⟩ => ⟨S512x90x90, .f32⟩
  | .hbm, ⟨1, _⟩ => ⟨S512x90x90, .f32⟩
  | .hbm, ⟨2, _⟩ => ⟨S90x90, .f32⟩
  | .hbm, ⟨3, _⟩ => ⟨S90, .f32⟩
  | .hbm, ⟨4, _⟩ => ⟨S90x90, .f32⟩
  | .hbm, ⟨5, _⟩ => ⟨S90, .f32⟩
  | .hbm, ⟨6, _⟩ => ⟨S90x90, .f32⟩
  | .hbm, ⟨7, _⟩ => ⟨S90, .f32⟩
  | .hbm, ⟨8, _⟩ => ⟨S90x90, .f32⟩
  | .hbm, ⟨9, _⟩ => ⟨S90, .f32⟩
  | .hbm, ⟨10, _⟩ => ⟨S90, .f32⟩
  | .hbm, ⟨11, _⟩ => ⟨S90, .f32⟩
  | .hbm, ⟨12, _⟩ => ⟨S90, .f32⟩
  | .hbm, ⟨13, _⟩ => ⟨S90, .f32⟩
  | .hbm, ⟨14, _⟩ => ⟨S90x180, .f32⟩
  | .hbm, ⟨15, _⟩ => ⟨S180, .f32⟩
  | .hbm, ⟨16, _⟩ => ⟨S180x90, .f32⟩
  | .hbm, ⟨17, _⟩ => ⟨S90, .f32⟩
  | .hbm, ⟨18, _⟩ => ⟨S512x90x90, .f32⟩
  | .hbm, ⟨19, _⟩ => ⟨S512x6x90x90, .f32⟩
  | .local _ .vmem, ⟨0, _⟩ => ⟨S32x90x90, .f32⟩
  | .local _ .vmem, ⟨1, _⟩ => ⟨S32x90x90, .f32⟩
  | .local _ .vmem, ⟨2, _⟩ => ⟨S32x90x90, .f32⟩
  | .local _ .vmem, ⟨3, _⟩ => ⟨S32x90x90, .f32⟩
  | .local _ .vmem, ⟨4, _⟩ => ⟨S90x90, .f32⟩
  | .local _ .vmem, ⟨5, _⟩ => ⟨S90x90, .f32⟩
  | .local _ .vmem, ⟨6, _⟩ => ⟨S90x90, .f32⟩
  | .local _ .vmem, ⟨7, _⟩ => ⟨S90x90, .f32⟩
  | .local _ .vmem, ⟨8, _⟩ => ⟨S90x180, .f32⟩
  | .local _ .vmem, ⟨9, _⟩ => ⟨S180x90, .f32⟩
  | .local _ .vmem, ⟨10, _⟩ => ⟨S32x90x90, .f32⟩
  | .local _ .vmem, ⟨11, _⟩ => ⟨S32x90x90, .f32⟩
  | .local _ .vmem, ⟨12, _⟩ => ⟨S32x6x90x90, .f32⟩
  | .local _ .vmem, ⟨13, _⟩ => ⟨S32x6x90x90, .f32⟩
  | _, _ => ⟨S512x90x90, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0_0 : Ref sig .tc := ⟨.hbm, 18, rfl⟩
abbrev main_v0_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S32x90x90 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x90x90 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S90x90 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S90x90 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S90x90 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S90x90 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S90x180 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S180x90 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S32x90x90 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x6x90x90 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "inv_89" => some ((1 / 89 : ℝ) : EReal)
  | "log2e" => some (((Real.log 2)⁻¹ : ℝ) : EReal)
  | "log2e_over_root" => some (((Real.log 2)⁻¹ * (Real.sqrt 15)⁻¹ : ℝ) : EReal)
  | _ => none
-- ==== ReferenceIdeal.lean ====
abbrev S512x90x90 : Shape := ⟨3, ![512, 90, 90]⟩
abbrev S90x90 : Shape := ⟨2, ![90, 90]⟩
abbrev S90 : Shape := ⟨1, ![90]⟩
abbrev S90x180 : Shape := ⟨2, ![90, 180]⟩
abbrev S180 : Shape := ⟨1, ![180]⟩
abbrev S180x90 : Shape := ⟨2, ![180, 90]⟩
abbrev S1x1x90 : Shape := ⟨3, ![1, 1, 90]⟩
abbrev S512x90x6x15 : Shape := ⟨4, ![512, 90, 6, 15]⟩
abbrev S512x6x90x15 : Shape := ⟨4, ![512, 6, 90, 15]⟩
abbrev S512x6x90x90 : Shape := ⟨4, ![512, 6, 90, 90]⟩
abbrev S_ : Shape := ⟨0, ![]⟩
abbrev S512x1x90x90 : Shape := ⟨4, ![512, 1, 90, 90]⟩
abbrev S512x6x90 : Shape := ⟨3, ![512, 6, 90]⟩
abbrev S512x6x90x1 : Shape := ⟨4, ![512, 6, 90, 1]⟩
abbrev S512x90 : Shape := ⟨2, ![512, 90]⟩
abbrev S512x90x1 : Shape := ⟨3, ![512, 90, 1]⟩
abbrev S512x90x180 : Shape := ⟨3, ![512, 90, 180]⟩
abbrev S1x1x180 : Shape := ⟨3, ![1, 1, 180]⟩

abbrev nBuf : Space → Nat
  | .hbm => 150
  | .vmem => 0
  | .smem => 0
  | _ => 0

abbrev hbmTy0_0 (i : Nat) : BufTy := match i % 128 with
  | 0 => ⟨S512x90x90, .f32⟩
  | 1 => ⟨S512x90x90, .f32⟩
  | 2 => ⟨S90x90, .f32⟩
  | 3 => ⟨S90, .f32⟩
  | 4 => ⟨S90x90, .f32⟩
  | 5 => ⟨S90, .f32⟩
  | 6 => ⟨S90x90, .f32⟩
  | 7 => ⟨S90, .f32⟩
  | 8 => ⟨S90x90, .f32⟩
  | 9 => ⟨S90, .f32⟩
  | 10 => ⟨S90, .f32⟩
  | 11 => ⟨S90, .f32⟩
  | 12 => ⟨S90, .f32⟩
  | 13 => ⟨S90, .f32⟩
  | 14 => ⟨S90x180, .f32⟩
  | 15 => ⟨S180, .f32⟩
  | 16 => ⟨S180x90, .f32⟩
  | 17 => ⟨S90, .f32⟩
  | 18 => ⟨S512x90x90, .f32⟩
  | 19 => ⟨S1x1x90, .f32⟩
  | 20 => ⟨S512x90x90, .f32⟩
  | 21 => ⟨S512x90x90, .f32⟩
  | 22 => ⟨S512x90x6x15, .f32⟩
  | 23 => ⟨S512x6x90x15, .f32⟩
  | 24 => ⟨S512x90x90, .f32⟩
  | 25 => ⟨S1x1x90, .f32⟩
  | 26 => ⟨S512x90x90, .f32⟩
  | 27 => ⟨S512x90x90, .f32⟩
  | 28 => ⟨S512x90x6x15, .f32⟩
  | 29 => ⟨S512x6x90x15, .f32⟩
  | 30 => ⟨S512x90x90, .f32⟩
  | 31 => ⟨S1x1x90, .f32⟩
  | 32 => ⟨S512x90x90, .f32⟩
  | 33 => ⟨S512x90x90, .f32⟩
  | 34 => ⟨S512x90x6x15, .f32⟩
  | 35 => ⟨S512x6x90x15, .f32⟩
  | 36 => ⟨S512x6x90x90, .f32⟩
  | 37 => ⟨S_, .f32⟩
  | 38 => ⟨S_, .f32⟩
  | 39 => ⟨S512x6x90x90, .f32⟩
  | 40 => ⟨S512x6x90x90, .f32⟩
  | 41 => ⟨S512x1x90x90, .f32⟩
  | 42 => ⟨S512x6x90x90, .f32⟩
  | 43 => ⟨S512x6x90x90, .f32⟩
  | 44 => ⟨S_, .f32⟩
  | 45 => ⟨S512x6x90, .f32⟩
  | 46 => ⟨S_, .f32⟩
  | 47 => ⟨S512x6x90, .f32⟩
  | 48 => ⟨S512x6x90, .f32⟩
  | 49 => ⟨S512x6x90x1, .f32⟩
  | 50 => ⟨S512x6x90x90, .f32⟩
  | 51 => ⟨S512x6x90x90, .f32⟩
  | 52 => ⟨S512x6x90x90, .f32⟩
  | 53 => ⟨S_, .f32⟩
  | 54 => ⟨S512x6x90, .f32⟩
  | 55 => ⟨S512x6x90x1, .f32⟩
  | 56 => ⟨S512x6x90x90, .f32⟩
  | 57 => ⟨S512x6x90x90, .f32⟩
  | 58 => ⟨S512x6x90x15, .f32⟩
  | 59 => ⟨S512x90x6x15, .f32⟩
  | 60 => ⟨S512x90x90, .f32⟩
  | 61 => ⟨S512x90x90, .f32⟩
  | 62 => ⟨S1x1x90, .f32⟩
  | 63 => ⟨S512x90x90, .f32⟩
  | 64 => ⟨S512x90x90, .f32⟩
  | 65 => ⟨S_, .f32⟩
  | 66 => ⟨S512x90, .f32⟩
  | 67 => ⟨S512x90x1, .f32⟩
  | 68 => ⟨S_, .f32⟩
  | 69 => ⟨S512x90x1, .f32⟩
  | 70 => ⟨S512x90x1, .f32⟩
  | 71 => ⟨S512x90x90, .f32⟩
  | 72 => ⟨S512x90x90, .f32⟩
  | 73 => ⟨S512x90x90, .f32⟩
  | 74 => ⟨S_, .f32⟩
  | 75 => ⟨S512x90, .f32⟩
  | 76 => ⟨S512x90x1, .f32⟩
  | 77 => ⟨S_, .f32⟩
  | 78 => ⟨S512x90x1, .f32⟩
  | 79 => ⟨S512x90x1, .f32⟩
  | 80 => ⟨S512x90x1, .f32⟩
  | 81 => ⟨S512x90x90, .f32⟩
  | 82 => ⟨S512x90x90, .f32⟩
  | 83 => ⟨S1x1x90, .f32⟩
  | 84 => ⟨S512x90x90, .f32⟩
  | 85 => ⟨S512x90x90, .f32⟩
  | 86 => ⟨S_, .f32⟩
  | 87 => ⟨S512x90x1, .f32⟩
  | 88 => ⟨S512x90x1, .f32⟩
  | 89 => ⟨S512x90x90, .f32⟩
  | 90 => ⟨S512x90x90, .f32⟩
  | 91 => ⟨S1x1x90, .f32⟩
  | 92 => ⟨S512x90x90, .f32⟩
  | 93 => ⟨S512x90x90, .f32⟩
  | 94 => ⟨S512x90x90, .f32⟩
  | 95 => ⟨S512x90x180, .f32⟩
  | 96 => ⟨S1x1x180, .f32⟩
  | 97 => ⟨S512x90x180, .f32⟩
  | 98 => ⟨S512x90x180, .f32⟩
  | 99 => ⟨S_, .f32⟩
  | 100 => ⟨S512x90x180, .f32⟩
  | 101 => ⟨S512x90x180, .f32⟩
  | 102 => ⟨S512x90x180, .f32⟩
  | 103 => ⟨S512x90x180, .f32⟩
  | 104 => ⟨S_, .f32⟩
  | 105 => ⟨S512x90x180, .f32⟩
  | 106 => ⟨S512x90x180, .f32⟩
  | 107 => ⟨S512x90x180, .f32⟩
  | 108 => ⟨S_, .f32⟩
  | 109 => ⟨S512x90x180, .f32⟩
  | 110 => ⟨S512x90x180, .f32⟩
  | 111 => ⟨S512x90x180, .f32⟩
  | 112 => ⟨S_, .f32⟩
  | 113 => ⟨S512x90x180, .f32⟩
  | 114 => ⟨S512x90x180, .f32⟩
  | 115 => ⟨S512x90x180, .f32⟩
  | 116 => ⟨S512x90x90, .f32⟩
  | 117 => ⟨S1x1x90, .f32⟩
  | 118 => ⟨S512x90x90, .f32⟩
  | 119 => ⟨S512x90x90, .f32⟩
  | 120 => ⟨S_, .f32⟩
  | 121 => ⟨S512x90, .f32⟩
  | 122 => ⟨S512x90x1, .f32⟩
  | 123 => ⟨S_, .f32⟩
  | 124 => ⟨S512x90x1, .f32⟩
  | 125 => ⟨S512x90x1, .f32⟩
  | 126 => ⟨S512x90x90, .f32⟩
  | 127 => ⟨S512x90x90, .f32⟩
  | _ => ⟨S512x90x90, .f32⟩

abbrev hbmTy0_1 (i : Nat) : BufTy := match i % 128 with
  | 0 => ⟨S512x90x90, .f32⟩
  | 1 => ⟨S_, .f32⟩
  | 2 => ⟨S512x90, .f32⟩
  | 3 => ⟨S512x90x1, .f32⟩
  | 4 => ⟨S_, .f32⟩
  | 5 => ⟨S512x90x1, .f32⟩
  | 6 => ⟨S512x90x1, .f32⟩
  | 7 => ⟨S512x90x1, .f32⟩
  | 8 => ⟨S512x90x90, .f32⟩
  | 9 => ⟨S512x90x90, .f32⟩
  | 10 => ⟨S1x1x90, .f32⟩
  | 11 => ⟨S512x90x90, .f32⟩
  | 12 => ⟨S512x90x90, .f32⟩
  | 13 => ⟨S_, .f32⟩
  | 14 => ⟨S512x90x1, .f32⟩
  | 15 => ⟨S512x90x1, .f32⟩
  | 16 => ⟨S512x90x90, .f32⟩
  | 17 => ⟨S512x90x90, .f32⟩
  | 18 => ⟨S1x1x90, .f32⟩
  | 19 => ⟨S512x90x90, .f32⟩
  | 20 => ⟨S512x90x90, .f32⟩
  | 21 => ⟨S512x90x90, .f32⟩
  | _ => ⟨S512x90x90, .f32⟩

abbrev hbmTy (i : Nat) : BufTy := match i / 128 with
  | 0 => hbmTy0_0 i
  | 1 => hbmTy0_1 i
  | _ => ⟨S512x90x90, .f32⟩

abbrev bufTy : (tb : Table) → Fin (tcTables nBuf tb) → BufTy
  | .hbm, ⟨i, _⟩ => hbmTy i
  | _, _ => ⟨S512x90x90, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_0 : Ref sig .tc := ⟨.hbm, 44, rfl⟩
abbrev main_v25 : Ref sig .tc := ⟨.hbm, 45, rfl⟩
abbrev main_cst_1 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_2 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_3 : Ref sig .tc := ⟨.hbm, 65, rfl⟩
abbrev main_v43 : Ref sig .tc := ⟨.hbm, 66, rfl⟩
abbrev main_v44 : Ref sig .tc := ⟨.hbm, 67, rfl⟩
abbrev main_cst_4 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_5 : Ref sig .tc := ⟨.hbm, 74, rfl⟩
abbrev main_v50 : Ref sig .tc := ⟨.hbm, 75, rfl⟩
abbrev main_v51 : Ref sig .tc := ⟨.hbm, 76, rfl⟩
abbrev main_cst_6 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_7 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_8 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_9 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_10 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_11 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_12 : Ref sig .tc := ⟨.hbm, 120, rfl⟩
abbrev main_v89 : Ref sig .tc := ⟨.hbm, 121, rfl⟩
abbrev main_v90 : Ref sig .tc := ⟨.hbm, 122, rfl⟩
abbrev main_cst_13 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_14 : Ref sig .tc := ⟨.hbm, 129, rfl⟩
abbrev main_v96 : Ref sig .tc := ⟨.hbm, 130, rfl⟩
abbrev main_v97 : Ref sig .tc := ⟨.hbm, 131, rfl⟩
abbrev main_cst_15 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_16 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩

abbrev nD : Nat := 1
abbrev τ : Topo := Topo.v7x

variable {F : FTy → Type} [FloatOps F]
-- ==== Proof.Model.lean ====
/- One graph's attention in extended reals, the way the kernel computes it: masked lanes, padded rows and columns,
   base-2 exponentials and no row maximum. -/
module

public import Idealize.ShloMosaic.PureOps.Ideal.Laws

@[expose] public section

noncomputable section

namespace Cert.Model

open Idealize.ShloMosaic

/-- A 90 × 90 matrix: a graph's rows, a graph's mask, or a weight. -/
abbrev Mat := Fin 90 → Fin 90 → EReal

/-- Whether lane `d` belongs to head `h`, as 0 or 1. -/
def lane (h : Fin 6) (d : Fin 90) : EReal := if d.val / 15 = h.val then 1 else 0

/-- A graph's rows with zero rows from 90 up. -/
def padRow (X : Mat) (j : Fin 128) (e : Fin 90) : EReal := if hj : j.val < 90 then X ⟨j.val, hj⟩ e else 0

/-- A projection of a padded row. -/
def projK (X W : Mat) (j : Fin 128) (d : Fin 90) : EReal := ∑ e, padRow X j e * W e d

/-- The query weights, scaled by `1 / (log 2 · √15)`. -/
def scaled (W : Mat) : Mat := fun e d => W e d * (((Real.log 2)⁻¹ * (Real.sqrt 15)⁻¹ : ℝ) : EReal)

/-- The base-2 exponent of a weight, −∞ in a padding column. -/
def expoK (X M Wq Wk : Mat) (h : Fin 6) (i : Fin 90) (j : Fin 128) : EReal :=
  (∑ d, projK X (scaled Wq) ⟨i.val, by omega⟩ d * (projK X Wk j d * lane h d))
    + if hj : j.val < 90 then M i ⟨j.val, hj⟩ * (((Real.log 2)⁻¹ : ℝ) : EReal) else ⊥

/-- The attention weight of row `i` on row `j` in head `h`. -/
def probK (X M Wq Wk : Mat) (h : Fin 6) (i : Fin 90) (j : Fin 128) : EReal :=
  Ideal.div (Ideal.exp2 (expoK X M Wq Wk h i j)) (∑ l : Fin 128, Ideal.exp2 (expoK X M Wq Wk h i l))

/-- The context: the six heads' parts added, each over the lanes of its head. -/
def ctxK (X M Wq Wk Wv : Mat) (i d : Fin 90) : EReal :=
  ∑ h : Fin 6, ∑ j : Fin 128, probK X M Wq Wk h i j * (projK X Wv j d * lane h d)

/-- The kernel's normalised residual, on one row. -/
def lnK (y : Fin 90 → EReal) (d : Fin 90) : EReal :=
  y d + (y d - Ideal.div (∑ e, y e) (Ideal.ofBits .f32 0x42B40000#32))
    * Ideal.div 1 (Ideal.sqrt ((∑ e, (y e - Ideal.div (∑ e, y e) (Ideal.ofBits .f32 0x42B40000#32))
        * (y e - Ideal.div (∑ e, y e) (Ideal.ofBits .f32 0x42B40000#32))) * ((1 / 89 : ℝ) : EReal))
      + Ideal.ofBits .f32 0x358637BD#32)

/-- The kernel's gelu of one number. -/
def geluK (u : EReal) : EReal :=
  Ideal.ofBits .f32 0x3F000000#32 * u
    * (1 + Ideal.tanh (Ideal.ofBits .f32 0x3F4C422A#32 * (u + Ideal.ofBits .f32 0x3D372713#32 * u * u * u)))

/-- One row of context to one row of output. -/
def rowK (wo : Mat) (w1 : Fin 90 → Fin 180 → EReal) (w2 : Fin 180 → Fin 90 → EReal) (c : Fin 90 → EReal) : Fin 90 → EReal :=
  lnK fun d => ∑ f : Fin 180, geluK (∑ e : Fin 90, lnK (fun d => ∑ e : Fin 90, c e * wo e d) e * w1 e f) * w2 f d

end Cert.Model

end
-- ==== Proof.Plain.lean ====
/- One graph's attention in extended reals, the way the problem states it: six heads of fifteen lanes, a softmax over
   the 90 rows, and residual layer norms around a gelu. -/
module

public import proofs.«01_k».proof.Proof.Model

@[expose] public section

noncomputable section

namespace Cert.Model

open Idealize.ShloMosaic

/-- A projection of a row. -/
def proj (X W : Mat) (i d : Fin 90) : EReal := ∑ e, X i e * W e d

/-- Lane `d` of head `h` among the 90 lanes. -/
def headLane (h : Fin 6) (d : Fin 15) : Fin 90 := ⟨h.val * 15 + d.val, by omega⟩

/-- The masked score of row `i` against row `j` in head `h`. -/
def scoreR (X M Wq Wk : Mat) (h : Fin 6) (i j : Fin 90) : EReal :=
  Ideal.div (∑ d : Fin 15, proj X Wq i (headLane h d) * proj X Wk j (headLane h d))
    (Ideal.sqrt (Ideal.ofBits .f32 0x41700000#32)) + M i j

/-- The greatest entry of a row. -/
def rowMax (s : Fin 90 → EReal) : EReal :=
  max (Ideal.ofBits .f32 0xFF800000#32) (Finset.univ.fold max (Ideal.ofBits .f32 0xFF800000#32) s)

/-- The softmax of a row. -/
def softR (s : Fin 90 → EReal) (j : Fin 90) : EReal :=
  Ideal.div (Ideal.exp (s j - rowMax s)) (∑ l, Ideal.exp (s l - rowMax s))

/-- The attention weight of row `i` on row `j` in head `h`. -/
def probR (X M Wq Wk : Mat) (h : Fin 6) (i j : Fin 90) : EReal := softR (scoreR X M Wq Wk h i) j

/-- The context: each lane's values averaged by the weights of the lane's head. -/
def ctxR (X M Wq Wk Wv : Mat) (i d : Fin 90) : EReal :=
  ∑ j, probR X M Wq Wk ⟨d.val / 15, by omega⟩ i j * proj X Wv j d

/-- The normalised residual of a row, with unit gain and no bias. -/
def lnR (y : Fin 90 → EReal) (d : Fin 90) : EReal :=
  y d + Ideal.div (y d - Ideal.div (∑ e, y e) (Ideal.ofBits .f32 0x42B40000#32))
    (Ideal.sqrt (Ideal.div (∑ e, (y e - Ideal.div (∑ e, y e) (Ideal.ofBits .f32 0x42B40000#32))
        * (y e - Ideal.div (∑ e, y e) (Ideal.ofBits .f32 0x42B40000#32))) (Ideal.ofBits .f32 0x42B20000#32))
      + Ideal.ofBits .f32 0x358637BD#32)

/-- Gelu of one number. -/
def geluR (u : EReal) : EReal :=
  Ideal.ofBits .f32 0x3F000000#32 * u
    * (1 + Ideal.tanh (Ideal.ofBits .f32 0x3F4C422A#32 * (u + Ideal.ofBits .f32 0x3D372713#32 * (u * u * u))))

/-- One row of context to one row of output. -/
def rowR (wo : Mat) (w1 : Fin 90 → Fin 180 → EReal) (w2 : Fin 180 → Fin 90 → EReal) (c : Fin 90 → EReal) : Fin 90 → EReal :=
  lnR fun d => ∑ f : Fin 180, geluR (∑ e : Fin 90, lnR (fun d => ∑ e : Fin 90, c e * wo e d) e * w1 e f) * w2 f d

end Cert.Model

end
-- ==== Proof.Meet.lean ====
/- The kernel's attention and the problem's are one function, over extended reals, where the rows and the query and key
   weights are finite and no mask entry is +∞. -/
module

public import proofs.«01_k».proof.Proof.Plain
public import Idealize.ShloMosaic.Lib.IdealHost

@[expose] public section

noncomputable section

namespace Cert.Model

open Idealize.ShloMosaic

/-! Constants. -/

theorem fifteen : Ideal.ofBits .f32 0x41700000#32 = ((15 : ℝ) : EReal) := by
  simp [Ideal.ofBits, Ideal.ieee, -EReal.coe_mul]; norm_num
theorem eightyNine : Ideal.ofBits .f32 0x42B20000#32 = ((89 : ℝ) : EReal) := by
  simp [Ideal.ofBits, Ideal.ieee, -EReal.coe_mul]; norm_num
theorem lowest : Ideal.ofBits .f32 0xFF800000#32 = ⊥ := by simp [Ideal.ofBits, Ideal.ieee]
theorem small_pos : 0 < Ideal.ofBits .f32 0x358637BD#32 := by
  have e : Ideal.ofBits .f32 0x358637BD#32 = (((8796093 : ℝ) / 8796093022208 : ℝ) : EReal) := by
    simp [Ideal.ofBits, Ideal.ieee, -EReal.coe_mul]; norm_num
  rw [e]
  exact EReal.coe_pos.mpr (by norm_num)

/-! Sums. -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over padded columns whose padding contributes nothing. -/
theorem sum_padded (f : Fin 128 → EReal) (hf : ∀ j, 90 ≤ j.val → f j = 0) :
    ∑ j, f j = ∑ j : Fin 90, f ⟨j.val, by omega⟩ := by
  rw [Fin.sum_univ_add (a := 90) (b := 38) f, Finset.sum_eq_zero fun (j : Fin 38) _ => hf (Fin.natAdd 90 j) (by simp), add_zero]
  rfl

/-- A masked sum over all lanes is the sum over the lanes of the head. -/
theorem sum_lane (h : Fin 6) (f : Fin 90 → ℝ) :
    ∑ d : Fin 90, f d * (if d.val / 15 = h.val then 1 else 0) = ∑ l : Fin 15, f (headLane h l) := by
  simp only [mul_ite, mul_one, mul_zero]
  rw [← Finset.sum_filter]
  symm
  refine Finset.sum_nbij (headLane h) (fun l _ => ?_) (fun a _ b _ e => ?_) (fun d hd => ?_) fun _ _ => rfl
  · simp only [Finset.mem_filter, Finset.mem_univ, true_and, headLane]; omega
  · have := congrArg Fin.val e
    simp only [headLane] at this
    exact Fin.ext (by omega)
  · simp only [Finset.coe_filter, Finset.mem_univ, true_and, Set.mem_setOf_eq] at hd
    refine ⟨⟨d.val % 15, by omega⟩, by simp, Fin.ext ?_⟩
    simp only [headLane]
    omega

/-! The softmax. -/

theorem exp_real {x : EReal} (hx : x ≠ ⊤) : ∃ r : ℝ, Ideal.exp x = r := by
  induction x using EReal.rec with
  | bot => exact ⟨0, rfl⟩
  | top => exact absurd rfl hx
  | coe r => exact ⟨Real.exp r, rfl⟩

theorem exp_sub {x : EReal} (hx : x ≠ ⊤) (r : ℝ) : Ideal.exp (x - r) = Ideal.exp x * (Real.exp (-r) : ℝ) := by
  induction x using EReal.rec with
  | bot => simp
  | top => exact absurd rfl hx
  | coe t => rw [← EReal.coe_sub, Ideal.exp_coe, Ideal.exp_coe, ← EReal.coe_mul, sub_eq_add_neg, Real.exp_add]

theorem div_real (a : ℝ) {b : ℝ} (hb : b ≠ 0) : Ideal.div (a : EReal) (b : EReal) = ((a / b : ℝ) : EReal) := by
  unfold Ideal.div
  rw [if_neg (by simpa using hb), ← EReal.coe_inv, ← EReal.coe_mul, div_eq_mul_inv]

theorem div_scale (a b c : ℝ) (hc : 0 < c) : Ideal.div ((a : EReal) * c) ((b : EReal) * c) = Ideal.div a b := by
  rw [← EReal.coe_mul, ← EReal.coe_mul]
  by_cases hb : b = 0
  · subst hb
    unfold Ideal.div
    have e : (0 : EReal) < ((a * c : ℝ) : EReal) ↔ (0 : EReal) < (a : EReal) := by
      rw [EReal.coe_pos, EReal.coe_pos]; exact mul_pos_iff_of_pos_right hc
    rw [zero_mul, EReal.coe_zero, if_pos rfl, if_pos rfl]
    simp only [e]
  · rw [div_real _ (mul_ne_zero hb hc.ne'), div_real _ hb, mul_div_mul_right _ _ hc.ne']

theorem le_rowMax (s : Fin 90 → EReal) (j : Fin 90) : s j ≤ rowMax s :=
  le_max_of_le_right (Finset.le_fold_max _ |>.mpr (.inr ⟨j, Finset.mem_univ j, le_rfl⟩))

theorem rowMax_ne_top (s : Fin 90 → EReal) (hs : ∀ j, s j ≠ ⊤) : rowMax s ≠ ⊤ := by
  unfold rowMax
  rw [lowest]
  refine ne_of_lt (max_lt bot_lt_top (Finset.fold_max_lt _ |>.mpr ⟨bot_lt_top, fun j _ => ?_⟩))
  exact lt_top_iff_ne_top.mpr (hs j)

/-- The softmax needs no row maximum: subtracting a number from every score changes no quotient. -/
theorem softR_eq (s : Fin 90 → EReal) (hs : ∀ j, s j ≠ ⊤) (j : Fin 90) :
    softR s j = Ideal.div (Ideal.exp (s j)) (∑ l, Ideal.exp (s l)) := by
  unfold softR
  have hle := le_rowMax s
  have htop := rowMax_ne_top s hs
  generalize rowMax s = m at hle htop
  induction m using EReal.rec with
  | top => exact absurd rfl htop
  | bot =>
    have e : ∀ l, s l = ⊥ := fun l => le_bot_iff.mp (hle l)
    simp [e]
  | coe r =>
    choose f hf using fun l => exp_real (hs l)
    simp only [exp_sub (hs _), hf, ← EReal.coe_mul, ← coe_sum, ← Finset.sum_mul]
    rw [EReal.coe_mul, EReal.coe_mul]
    exact div_scale _ _ _ (Real.exp_pos _)

/-! Padded projections. -/

theorem projK_of_lt (X W : Mat) (j : Fin 128) (hj : j.val < 90) (d : Fin 90) : projK X W j d = proj X W ⟨j.val, hj⟩ d := by
  unfold projK proj padRow
  simp only [dif_pos hj]

theorem projK_of_ge (X W : Mat) (j : Fin 128) (hj : 90 ≤ j.val) (d : Fin 90) : projK X W j d = 0 := by
  unfold projK padRow
  simp only [dif_neg (Nat.not_lt.mpr hj), zero_mul, Finset.sum_const_zero]

/-- Finite entries, as real numbers. -/
def IsReal (X : Mat) : Prop := ∃ x : Fin 90 → Fin 90 → ℝ, X = fun i e => (x i e : EReal)

theorem lane_coe (h : Fin 6) (d : Fin 90) : lane h d = ((if d.val / 15 = h.val then (1 : ℝ) else 0 : ℝ) : EReal) := by
  unfold lane; split <;> simp

theorem proj_coe (x w : Fin 90 → Fin 90 → ℝ) (i d : Fin 90) :
    proj (fun i e => (x i e : EReal)) (fun e d => (w e d : EReal)) i d = ((∑ e, x i e * w e d : ℝ) : EReal) := by
  unfold proj
  rw [coe_sum]
  exact Finset.sum_congr rfl fun e _ => (EReal.coe_mul _ _).symm

theorem proj_scaled_coe (x w : Fin 90 → Fin 90 → ℝ) (i d : Fin 90) :
    proj (fun i e => (x i e : EReal)) (scaled fun e d => (w e d : EReal)) i d
      = (((∑ e, x i e * w e d) * ((Real.log 2)⁻¹ * (Real.sqrt 15)⁻¹) : ℝ) : EReal) := by
  have e : scaled (fun e d => (w e d : EReal))
      = fun e d => ((w e d * ((Real.log 2)⁻¹ * (Real.sqrt 15)⁻¹) : ℝ) : EReal) :=
    funext fun e => funext fun d => (EReal.coe_mul _ _).symm
  rw [e, proj_coe, Finset.sum_mul]
  simp only [mul_assoc]

theorem root_fifteen : Ideal.sqrt (Ideal.ofBits .f32 0x41700000#32) = ((Real.sqrt 15 : ℝ) : EReal) := by
  rw [fifteen, Ideal.sqrt_coe, if_neg (by norm_num)]

section
variable (X M Wq Wk : Mat) (hX : IsReal X) (hq : IsReal Wq) (hk : IsReal Wk) (hM : ∀ i j, M i j ≠ ⊤)

include hX hq hk in
/-- A score without its mask is a real number `t`, and the kernel's is `t / log 2`. -/
theorem score_parts (h : Fin 6) (i j : Fin 90) : ∃ t : ℝ,
    scoreR X M Wq Wk h i j = t + M i j
      ∧ expoK X M Wq Wk h i ⟨j.val, by omega⟩ = ((t * (Real.log 2)⁻¹ : ℝ) : EReal) + M i j * (((Real.log 2)⁻¹ : ℝ) : EReal) := by
  obtain ⟨x, rfl⟩ := hX
  obtain ⟨q, rfl⟩ := hq
  obtain ⟨k, rfl⟩ := hk
  have r15 : Real.sqrt 15 ≠ 0 := (Real.sqrt_pos.mpr (by norm_num)).ne'
  refine ⟨(∑ l : Fin 15, (∑ e, x i e * q e (headLane h l)) * (∑ e, x j e * k e (headLane h l))) / Real.sqrt 15, ?_, ?_⟩
  · unfold scoreR
    simp only [proj_coe, ← EReal.coe_mul, ← coe_sum]
    rw [root_fifteen, div_real _ r15]
  · unfold expoK
    rw [dif_pos j.isLt]
    refine congrArg (· + _) ?_
    simp only [projK_of_lt _ _ ⟨i.val, _⟩ i.isLt, projK_of_lt _ _ ⟨j.val, _⟩ j.isLt, proj_scaled_coe, proj_coe, lane_coe, ← EReal.coe_mul, ← coe_sum]
    refine congrArg _ ?_
    rw [div_eq_mul_inv, mul_assoc, Finset.sum_mul, ← sum_lane h fun d => (∑ e, x i e * q e d) * (∑ e, x j e * k e d)
      * ((Real.sqrt 15)⁻¹ * (Real.log 2)⁻¹)]
    exact Finset.sum_congr rfl fun d _ => by ring

/-- `2 ^ (t / log 2)` is `exp t`, a mask entry included. -/
theorem exp2_scaled (t : ℝ) {m : EReal} (hm : m ≠ ⊤) :
    Ideal.exp2 (((t * (Real.log 2)⁻¹ : ℝ) : EReal) + m * (((Real.log 2)⁻¹ : ℝ) : EReal)) = Ideal.exp (t + m) := by
  have l2 : 0 < Real.log 2 := Real.log_pos (by norm_num)
  induction m using EReal.rec with
  | top => exact absurd rfl hm
  | bot => rw [EReal.bot_mul_coe_of_pos (inv_pos.mpr l2), EReal.add_bot, EReal.add_bot, Ideal.exp2_bot, Ideal.exp_bot]
  | coe m =>
    rw [← EReal.coe_mul, ← EReal.coe_add, ← EReal.coe_add, Ideal.exp2_coe, Ideal.exp_coe, ← add_mul]
    refine congrArg _ ?_
    rw [Real.rpow_eq_pow, Real.rpow_def_of_pos (by norm_num), mul_comm, mul_assoc, inv_mul_cancel₀ l2.ne', mul_one]

include hX hq hk hM in
theorem exp2_expoK (h : Fin 6) (i j : Fin 90) :
    Ideal.exp2 (expoK X M Wq Wk h i ⟨j.val, by omega⟩) = Ideal.exp (scoreR X M Wq Wk h i j) := by
  obtain ⟨t, h₁, h₂⟩ := score_parts X M Wq Wk hX hq hk h i j
  rw [h₁, h₂, exp2_scaled t (hM i j)]

theorem exp2_padding (h : Fin 6) (i : Fin 90) (j : Fin 128) (hj : 90 ≤ j.val) : Ideal.exp2 (expoK X M Wq Wk h i j) = 0 := by
  unfold expoK
  rw [dif_neg (Nat.not_lt.mpr hj), EReal.add_bot, Ideal.exp2_bot]

include hX hq hk hM in
/-- The kernel's weights are the softmax of the masked scores. -/
theorem probK_eq (h : Fin 6) (i j : Fin 90) : probK X M Wq Wk h i ⟨j.val, by omega⟩ = probR X M Wq Wk h i j := by
  unfold probK probR
  rw [softR_eq _ fun l => ?_, sum_padded _ fun l hl => exp2_padding X M Wq Wk h i l hl]
  · simp only [exp2_expoK X M Wq Wk hX hq hk hM]
  · obtain ⟨t, h₁, -⟩ := score_parts X M Wq Wk hX hq hk h i l
    rw [h₁]
    exact (EReal.add_lt_top (EReal.coe_ne_top t) (hM i l)).ne

include hX hq hk hM in
/-- The kernel's context is the heads' contexts side by side. -/
theorem ctxK_eq (Wv : Mat) (i d : Fin 90) : ctxK X M Wq Wk Wv i d = ctxR X M Wq Wk Wv i d := by
  unfold ctxK ctxR
  rw [Finset.sum_eq_single (⟨d.val / 15, by omega⟩ : Fin 6)]
  · rw [sum_padded _ fun j hj => by rw [projK_of_ge _ _ _ hj, zero_mul, mul_zero]]
    refine Finset.sum_congr rfl fun j _ => ?_
    rw [probK_eq X M Wq Wk hX hq hk hM, projK_of_lt _ _ ⟨j.val, _⟩ j.isLt]
    simp [lane]
  · intro h _ hh
    have e : lane h d = 0 := if_neg fun e => hh (Fin.ext e.symm)
    simp [e]
  · intro hn
    exact absurd (Finset.mem_univ _) hn

end

/-! The layers above the attention. -/

theorem sq_nonneg (a : EReal) : 0 ≤ a * a := by
  rcases le_total 0 a with h | h
  · exact mul_nonneg h h
  · rw [← neg_mul_neg]
    exact mul_nonneg (EReal.neg_nonneg.mpr h) (EReal.neg_nonneg.mpr h)

theorem sqrt_nonneg {a : EReal} (ha : 0 ≤ a) : 0 ≤ Ideal.sqrt a := by
  induction a using EReal.rec with
  | bot => exact absurd ha (by simp)
  | top => exact le_top
  | coe r =>
    rw [Ideal.sqrt_coe, if_neg (not_lt.mpr (EReal.coe_nonneg.mp ha))]
    exact EReal.coe_nonneg.mpr (Real.sqrt_nonneg r)

theorem div_eightyNine (a : EReal) : Ideal.div a (Ideal.ofBits .f32 0x42B20000#32) = a * ((1 / 89 : ℝ) : EReal) := by
  rw [eightyNine]
  unfold Ideal.div
  rw [if_neg (by norm_num), ← EReal.coe_inv, one_div]

theorem lnK_eq (y : Fin 90 → EReal) : lnK y = lnR y := by
  funext d
  unfold lnK lnR
  rw [div_eightyNine, Ideal.mul_one_div]
  refine (lt_of_lt_of_le small_pos (le_add_of_nonneg_left (sqrt_nonneg (mul_nonneg ?_ ?_)))).ne'
  · exact Finset.sum_nonneg fun e _ => sq_nonneg _
  · exact EReal.coe_nonneg.mpr (by norm_num)

theorem geluK_eq (u : EReal) : geluK u = geluR u := by
  unfold geluK geluR
  simp only [mul_assoc]

theorem rowK_eq (wo : Mat) (w1 : Fin 90 → Fin 180 → EReal) (w2 : Fin 180 → Fin 90 → EReal) (c : Fin 90 → EReal) :
    rowK wo w1 w2 c = rowR wo w1 w2 c := by
  unfold rowK rowR
  simp only [lnK_eq, geluK_eq]

end Cert.Model

end
-- ==== Proof.RefRead.lean ====
/- The reference's stages as functions of arrays, each read at an index over the extended reals. -/
module

public import proofs.«01_k».proof.Proof.Gen.ReferenceIdeal.Read
public import proofs.«01_k».proof.Proof.Plain
public import Idealize.ShloMosaic.Lib.Pointwise

@[expose] public section

set_option synthInstance.maxSize 4096
set_option maxRecDepth 16384

noncomputable section

namespace Cert.ReferenceIdeal.Body

open Idealize.ShloMosaic Idealize.SL.Sem Cert.ReferenceIdeal.Gen Cert.Model

variable {F : FTy → Type} [FloatOps F]

/-- A bias or gain over the 90 lanes, at every row. -/
def bias (b : FVec F S90 .f32) : FVec F S512x90x90 .f32 :=
  broadcastInDim S512x90x90 ![0, 1, 2] bcast_S1x1x90_S512x90x90_0_1_2 (broadcastInDim S1x1x90 ![2] bcast_S90_S1x1x90_2 b)

/-- A dense layer over 90 lanes. -/
def dense (x : FVec F S512x90x90 .f32) (w : FVec F S90x90 .f32) (b : FVec F S90 .f32) : FVec F S512x90x90 .f32 :=
  addf (Host.dotGeneral dot_S512x90x90_S90x90_S512x90x90_2_0_01_1_n_n none x w) (bias b)

/-- A dense layer, its lanes split into the heads. -/
def heads (x : FVec F S512x90x90 .f32) (w : FVec F S90x90 .f32) (b : FVec F S90 .f32) : FVec F S512x6x90x15 .f32 :=
  transpose S512x6x90x15 [0, 2, 1, 3] (shapeCast S512x90x6x15 (dense x w b) shapeCasts_S512x90x90_S512x90x6x15)
    transposes_S512x90x6x15_S512x6x90x15_0_2_1_3

/-- The masked scores. -/
def scores (q k : FVec F S512x6x90x15 .f32) (y : FVec F S512x90x90 .f32) : FVec F S512x6x90x90 .f32 :=
  addf (Host.divf (Host.dotGeneral dot_S512x6x90x15_S512x6x90x15_S512x6x90x90_3_3_2_2_01_01 none q k)
      (broadcastInDim S512x6x90x90 ![] bcast_S_S512x6x90x90 (Host.sqrt (constant S_ .f32 0x41700000#32))))
    (broadcastInDim S512x6x90x90 ![0, 1, 2, 3] bcast_S512x1x90x90_S512x6x90x90_0_1_2_3
      (broadcastInDim S512x1x90x90 ![0, 2, 3] bcast_S512x90x90_S512x1x90x90_0_2_3 y))

/-- One number per row of weights, along the row. -/
def along (r : FVec F S512x6x90 .f32) : FVec F S512x6x90x90 .f32 :=
  broadcastInDim S512x6x90x90 ![0, 1, 2, 3] bcast_S512x6x90x1_S512x6x90x90_0_1_2_3
    (broadcastInDim S512x6x90x1 ![0, 1, 2] bcast_S512x6x90_S512x6x90x1_0_1_2 r)

/-- The rows' greatest entries. -/
def maxima (s : FVec F S512x6x90x90 .f32) : FVec F S512x6x90 .f32 :=
  maximumf (broadcastInDim S512x6x90 ![] bcast_S_S512x6x90 (constant S_ .f32 0xFF800000#32))
    (Host.reduce FloatOps.maximumf s (constant S_ .f32 0xFF800000#32) reducesTo_S512x6x90x90_S512x6x90_d3 h_S_)

/-- The exponentials of a row less its greatest entry. -/
def expos (s : FVec F S512x6x90x90 .f32) : FVec F S512x6x90x90 .f32 := Host.exp (subf s (along (maxima s)))

/-- A row divided by its sum. -/
def shares (e : FVec F S512x6x90x90 .f32) : FVec F S512x6x90x90 .f32 :=
  Host.divf e (along (Host.reduceAdd e (constant S_ .f32 0x00000000#32) reducesTo_S512x6x90x90_S512x6x90_d3 h_S_))

/-- The heads' contexts, side by side. -/
def context (p : FVec F S512x6x90x90 .f32) (v : FVec F S512x6x90x15 .f32) : FVec F S512x90x90 .f32 :=
  shapeCast S512x90x90 (transpose S512x90x6x15 [0, 2, 1, 3]
    (Host.dotGeneral dot_S512x6x90x90_S512x6x90x15_S512x6x90x15_3_2_2_3_01_01 none p v)
    transposes_S512x6x90x15_S512x90x6x15_0_2_1_3) shapeCasts_S512x90x6x15_S512x90x90

/-- The sum of each row, divided by a number. -/
def perRow (y : FVec F S512x90x90 .f32) (n : BitVec 32) : FVec F S512x90x1 .f32 :=
  Host.divf (broadcastInDim S512x90x1 ![0, 1] bcast_S512x90_S512x90x1_0_1
      (Host.reduceAdd y (constant S_ .f32 0x00000000#32) reducesTo_S512x90x90_S512x90_d2 h_S_))
    (broadcastInDim S512x90x1 ![] bcast_S_S512x90x1 (constant S_ .f32 n))

/-- Rows less their means. -/
def centred (y : FVec F S512x90x90 .f32) : FVec F S512x90x90 .f32 :=
  subf y (broadcastInDim S512x90x90 ![0, 1, 2] bcast_S512x90x1_S512x90x90_0_1_2 (perRow y 0x42B40000#32))

/-- A row plus its normalised form. -/
def residual (y : FVec F S512x90x90 .f32) (a b : FVec F S90 .f32) : FVec F S512x90x90 .f32 :=
  addf y (addf (Host.divf (mulf (bias a) (centred y))
    (broadcastInDim S512x90x90 ![0, 1, 2] bcast_S512x90x1_S512x90x90_0_1_2
      (addf (Host.sqrt (perRow (mulf (centred y) (centred y)) 0x42B20000#32))
        (broadcastInDim S512x90x1 ![] bcast_S_S512x90x1 (constant S_ .f32 0x358637BD#32))))) (bias b))

/-- One number at every entry of the wide layer. -/
def wide (n : BitVec 32) : FVec F S512x90x180 .f32 :=
  broadcastInDim S512x90x180 ![] bcast_S_S512x90x180 (constant S_ .f32 n)

/-- Gelu of an array. -/
def gelu (u : FVec F S512x90x180 .f32) : FVec F S512x90x180 .f32 :=
  mulf (mulf (wide 0x3F000000#32) u) (addf (wide 0x3F800000#32) (Host.tanh (mulf (wide 0x3F4C422A#32)
    (addf u (mulf (wide 0x3D372713#32) (mulf (mulf u u) u))))))

/-- The dense layer into 180 lanes. -/
def up (z : FVec F S512x90x90 .f32) (w : FVec F S90x180 .f32) (b : FVec F S180 .f32) : FVec F S512x90x180 .f32 :=
  addf (Host.dotGeneral dot_S512x90x90_S90x180_S512x90x180_2_0_01_1_n_n none z w)
    (broadcastInDim S512x90x180 ![0, 1, 2] bcast_S1x1x180_S512x90x180_0_1_2 (broadcastInDim S1x1x180 ![2] bcast_S180_S1x1x180_2 b))

/-- The dense layer back to 90 lanes. -/
def down (u : FVec F S512x90x180 .f32) (w : FVec F S180x90 .f32) (b : FVec F S90 .f32) : FVec F S512x90x90 .f32 :=
  addf (Host.dotGeneral dot_S512x90x180_S180x90_S512x90x90_2_0_01_1_n_n none u w) (bias b)

/-! The stages at an index. -/

section
variable (g : Fin 512) (h : Fin 6) (i j d : Fin 90)

theorem bias_at (b : FVec Ideal S90 .f32) : bias b (ix3 g i d) = b (ix1 d) := by
  pointwise [bias]

theorem dense_at (x : FVec Ideal S512x90x90 .f32) (w : FVec Ideal S90x90 .f32) (b : FVec Ideal S90 .f32)
    (hb : ∀ d, b (ix1 d) = 0) : dense x w b (ix3 g i d) = ∑ e, x (ix3 g i e) * w (ix2 e d) := by
  pointwise [dense, bias_at, hb]

theorem heads_at (x : FVec Ideal S512x90x90 .f32) (w : FVec Ideal S90x90 .f32) (b : FVec Ideal S90 .f32)
    (hb : ∀ d, b (ix1 d) = 0) (l : Fin 15) :
    heads x w b (ix4 g h i l) = ∑ e, x (ix3 g i e) * w (ix2 e (headLane h l)) := by
  pointwise [heads]
  rw [dense_at _ _ _ _ _ _ hb]
  rfl

theorem scores_at (q k : FVec Ideal S512x6x90x15 .f32) (y : FVec Ideal S512x90x90 .f32) :
    scores q k y (ix4 g h i j) = Ideal.div (∑ l : Fin 15, q (ix4 g h i l) * k (ix4 g h j l))
      (Ideal.sqrt (Ideal.ofBits .f32 0x41700000#32)) + y (ix3 g i j) := by
  pointwise [scores]

theorem along_at (r : FVec Ideal S512x6x90 .f32) : along r (ix4 g h i j) = r (ix3 g h i) := by
  pointwise [along]

theorem greatest_at (s : FVec Ideal S512x6x90x90 .f32) (z : FVec Ideal S_ .f32) :
    Host.reduce FloatOps.maximumf s z reducesTo_S512x6x90x90_S512x6x90_d3 h_S_ (ix3 g h i)
      = Finset.univ.fold max (z (Shape.Idx.first h_S_)) fun j : Fin 90 => s (ix4 g h i j) := by
  have hr : S512x6x90x90.Reduces [3] S512x6x90 := by decide
  rw [Host.reduce_eq_fold_single (a := 3) FloatOps.maximumf s z reducesTo_S512x6x90x90_S512x6x90_d3 hr h_S_ (ix3 g h i)]
  have e : s ∘ hr.lift (ix3 g h i) = fun j : Fin 90 => s (ix4 g h i j) := funext fun j =>
    congrArg s (funext fun a => Fin.ext (by match a with | ⟨0, _⟩ => rfl | ⟨1, _⟩ => rfl | ⟨2, _⟩ => rfl | ⟨3, _⟩ => rfl))
  rw [e]
  rfl

theorem floor_at : (broadcastInDim S512x6x90 ![] bcast_S_S512x6x90 (constant (F := Ideal) S_ .f32 0xFF800000#32)) (ix3 g h i)
    = Ideal.ofBits .f32 0xFF800000#32 := by
  pointwise []

theorem maximumf_at {s : Shape} (x y : FVec Ideal s .f32) (t : s.Idx) : maximumf x y t = max (x t) (y t) := rfl

theorem maxima_at (s : FVec Ideal S512x6x90x90 .f32) : maxima s (ix3 g h i) = rowMax fun j => s (ix4 g h i j) := by
  unfold maxima
  rw [maximumf_at, floor_at, greatest_at]
  unfold rowMax
  rfl

theorem expos_at (s : FVec Ideal S512x6x90x90 .f32) :
    expos s (ix4 g h i j) = Ideal.exp (s (ix4 g h i j) - rowMax fun j => s (ix4 g h i j)) := by
  pointwise [expos, along_at, maxima_at]

theorem shares_at (e : FVec Ideal S512x6x90x90 .f32) :
    shares e (ix4 g h i j) = Ideal.div (e (ix4 g h i j)) (∑ l, e (ix4 g h i l)) := by
  pointwise [shares, along_at]

theorem softmax_at (s : FVec Ideal S512x6x90x90 .f32) :
    shares (expos s) (ix4 g h i j) = softR (fun j => s (ix4 g h i j)) j := by
  rw [shares_at]
  simp only [expos_at]
  rfl

theorem context_at (p : FVec Ideal S512x6x90x90 .f32) (v : FVec Ideal S512x6x90x15 .f32) :
    context p v (ix3 g i d) = ∑ j : Fin 90, p (ix4 g ⟨d.val / 15, by omega⟩ i j)
      * v (ix4 g ⟨d.val / 15, by omega⟩ j ⟨d.val % 15, by omega⟩) := by
  pointwise [context]

theorem perRow_at (y : FVec Ideal S512x90x90 .f32) (n : BitVec 32) :
    perRow y n (ix3 g i 0) = Ideal.div (∑ e, y (ix3 g i e)) (Ideal.ofBits .f32 n) := by
  pointwise [perRow]

theorem centred_at (y : FVec Ideal S512x90x90 .f32) :
    centred y (ix3 g i d)
      = y (ix3 g i d) - Ideal.div (∑ e, y (ix3 g i e)) (Ideal.ofBits .f32 0x42B40000#32) := by
  pointwise [centred, perRow_at]

theorem residual_at (y : FVec Ideal S512x90x90 .f32) (a b : FVec Ideal S90 .f32)
    (ha : ∀ d, a (ix1 d) = 1) (hb : ∀ d, b (ix1 d) = 0) :
    residual y a b (ix3 g i d) = lnR (fun d => y (ix3 g i d)) d := by
  pointwise [residual, bias_at, perRow_at, centred_at, ha, hb]
  rfl

theorem up_at (z : FVec Ideal S512x90x90 .f32) (w : FVec Ideal S90x180 .f32) (b : FVec Ideal S180 .f32)
    (hb : ∀ d, b (ix1 d) = 0) (f : Fin 180) : up z w b (ix3 g i f) = ∑ e, z (ix3 g i e) * w (ix2 e f) := by
  pointwise [up, hb]

theorem gelu_at (u : FVec Ideal S512x90x180 .f32) (f : Fin 180) : gelu u (ix3 g i f) = geluR (u (ix3 g i f)) := by
  pointwise [gelu, wide]
  rfl

theorem down_at (u : FVec Ideal S512x90x180 .f32) (w : FVec Ideal S180x90 .f32) (b : FVec Ideal S90 .f32)
    (hb : ∀ d, b (ix1 d) = 0) : down u w b (ix3 g i d) = ∑ f, u (ix3 g i f) * w (ix2 f d) := by
  pointwise [down, bias_at, hb]

end

end Cert.ReferenceIdeal.Body

end
-- ==== Proof.RefValue.lean ====
/- The reference's two results at an index, with the biases at 0 and the gains at 1. -/
module

public import proofs.«01_k».proof.Proof.RefRead

@[expose] public section

set_option maxRecDepth 16384

noncomputable section

namespace Cert.ReferenceIdeal.Body

open Idealize.ShloMosaic Idealize.SL.Sem Cert.ReferenceIdeal.Gen Cert.ReferenceIdeal.Read Cert.Model

/-- One graph of an array. -/
def graph (x : FVec Ideal S512x90x90 .f32) (g : Fin 512) : Mat := fun i e => x (ix3 g i e)

/-- A square weight by its two coordinates. -/
def mat (w : FVec Ideal S90x90 .f32) : Mat := fun e d => w (ix2 e d)

variable (x0 x1 : FVec Ideal S512x90x90 .f32) (x2 : FVec Ideal S90x90 .f32) (x3 : FVec Ideal S90 .f32)
  (x4 : FVec Ideal S90x90 .f32) (x5 : FVec Ideal S90 .f32) (x6 : FVec Ideal S90x90 .f32) (x7 : FVec Ideal S90 .f32)
  (x8 : FVec Ideal S90x90 .f32) (x9 x10 x11 x12 x13 : FVec Ideal S90 .f32) (x14 : FVec Ideal S90x180 .f32)
  (x15 : FVec Ideal S180 .f32) (x16 : FVec Ideal S180x90 .f32) (x17 : FVec Ideal S90 .f32)

theorem weights_eq : val_main_v35 (F := Ideal) x0 x1 x2 x3 x4 x5
    = shares (expos (scores (heads x0 x2 x3) (heads x0 x4 x5) x1)) := rfl

theorem context_eq : val_main_v38 (F := Ideal) x0 x1 x2 x3 x4 x5 x6 x7
    = context (val_main_v35 (F := Ideal) x0 x1 x2 x3 x4 x5) (heads x0 x6 x7) := rfl

theorem first_eq : val_main_v67 (F := Ideal) x0 x1 x2 x3 x4 x5 x6 x7 x8 x9 x10 x11
    = residual (dense (val_main_v38 (F := Ideal) x0 x1 x2 x3 x4 x5 x6 x7) x8 x9) x10 x11 := rfl

theorem second_eq : val_main_v113 (F := Ideal) x0 x1 x2 x3 x4 x5 x6 x7 x8 x9 x10 x11 x12 x13 x14 x15 x16 x17
    = residual (down (gelu (up (val_main_v67 (F := Ideal) x0 x1 x2 x3 x4 x5 x6 x7 x8 x9 x10 x11) x14 x15)) x16 x17)
      x12 x13 := rfl

section
variable (h3 : ∀ d, x3 (ix1 d) = 0) (h5 : ∀ d, x5 (ix1 d) = 0) (h7 : ∀ d, x7 (ix1 d) = 0) (h9 : ∀ d, x9 (ix1 d) = 0)
  (h10 : ∀ d, x10 (ix1 d) = 1) (h11 : ∀ d, x11 (ix1 d) = 0) (h12 : ∀ d, x12 (ix1 d) = 1) (h13 : ∀ d, x13 (ix1 d) = 0)
  (h15 : ∀ d, x15 (ix1 d) = 0) (h17 : ∀ d, x17 (ix1 d) = 0) (g : Fin 512)

include h3 h5 in
theorem weights_at (h : Fin 6) (i j : Fin 90) : val_main_v35 (F := Ideal) x0 x1 x2 x3 x4 x5 (ix4 g h i j)
    = probR (graph x0 g) (graph x1 g) (mat x2) (mat x4) h i j := by
  rw [weights_eq, softmax_at]
  simp only [scores_at, heads_at (hb := h3), heads_at (hb := h5)]
  rfl

include h3 h5 h7 in
theorem ctx_at (i d : Fin 90) : val_main_v38 (F := Ideal) x0 x1 x2 x3 x4 x5 x6 x7 (ix3 g i d)
    = ctxR (graph x0 g) (graph x1 g) (mat x2) (mat x4) (mat x6) i d := by
  rw [context_eq, context_at]
  simp only [weights_at x0 x1 x2 x3 x4 x5 h3 h5, heads_at (hb := h7)]
  have e : headLane ⟨d.val / 15, by omega⟩ ⟨d.val % 15, by omega⟩ = d := Fin.ext (Nat.div_add_mod' d.val 15)
  rw [e]
  rfl

include h3 h5 h7 h9 h10 h11 h12 h13 h15 h17 in
/-- The first result is the layers above the attention, on each row of the context. -/
theorem out_at (i d : Fin 90) :
    val_main_v113 (F := Ideal) x0 x1 x2 x3 x4 x5 x6 x7 x8 x9 x10 x11 x12 x13 x14 x15 x16 x17 (ix3 g i d)
      = rowR (mat x8) (fun e f => x14 (ix2 e f)) (fun f d => x16 (ix2 f d))
        (ctxR (graph x0 g) (graph x1 g) (mat x2) (mat x4) (mat x6) i) d := by
  rw [second_eq, residual_at (ha := h12) (hb := h13)]
  simp only [down_at (hb := h17), gelu_at, up_at (hb := h15)]
  simp only [first_eq, residual_at (ha := h10) (hb := h11), dense_at (hb := h9),
    ctx_at x0 x1 x2 x3 x4 x5 x6 x7 h3 h5 h7]
  rfl

end

end Cert.ReferenceIdeal.Body

end
-- ==== Proof.Given.lean ====
/- What the precondition says of the arguments: the rows and the query and key weights are finite, no mask entry is +∞,
   the biases are 0 and the gains 1. -/
module

public import proofs.«01_k».proof.Defs
public import proofs.«01_k».proof.Proof.Gen.Pre_as_initialised
public import proofs.«01_k».proof.Proof.Meet
public import proofs.«01_k».proof.Proof.RefValue

@[expose] public section

noncomputable section

namespace Cert.Given

open Idealize.ShloMosaic Idealize.SL.Sem Cert.Model

/-- An equality test of two arrays that holds everywhere says they agree everywhere. -/
theorem eq_of_test {s : Shape} (x y : FVec Ideal s .f32) (h : cmpf .oeq x y = fun _ => 1#1) (i : s.Idx) : x i = y i := by
  have e : BitVec.ofBool (decide (x i = y i)) = 1#1 := congrFun h i
  by_contra n
  simp [n] at e

/-- A less-than test of two arrays that holds everywhere orders them everywhere. -/
theorem lt_of_test {s : Shape} (x y : FVec Ideal s .f32) (h : cmpf .olt x y = fun _ => 1#1) (i : s.Idx) : x i < y i := by
  have e : BitVec.ofBool (decide (x i < y i)) = 1#1 := congrFun h i
  by_contra n
  simp [n] at e

theorem top_bits : Ideal.ofBits .f32 0x7F800000#32 = ⊤ := by simp [Ideal.ofBits, Ideal.ieee]

/-- A number whose magnitude is below +∞ is real. -/
theorem real_of_abs {a : EReal} (h : max a (-a) < Ideal.ofBits .f32 0x7F800000#32) : ((a.toReal : ℝ) : EReal) = a := by
  rw [top_bits, max_lt_iff] at h
  refine EReal.coe_toReal h.1.ne fun e => ?_
  rw [e] at h
  exact absurd h.2 (by simp)

/-- A square of finite numbers is real. -/
theorem isReal_of (X : Mat) (h : ∀ i e, max (X i e) (-(X i e)) < Ideal.ofBits .f32 0x7F800000#32) : IsReal X :=
  ⟨fun i e => (X i e).toReal, by funext i e; exact (real_of_abs (h i e)).symm⟩

/-- The precondition of a device, by argument. -/
structure Holds (x mask : FVec Ideal Cert.ReferenceIdeal.S512x90x90 .f32) (wq wk : FVec Ideal Cert.ReferenceIdeal.S90x90 .f32)
    (b3 b5 b7 b9 a10 b11 a12 b13 : FVec Ideal Cert.ReferenceIdeal.S90 .f32) (b15 : FVec Ideal Cert.ReferenceIdeal.S180 .f32)
    (b17 : FVec Ideal Cert.ReferenceIdeal.S90 .f32) : Prop where
  row : ∀ g, IsReal (Cert.ReferenceIdeal.Body.graph x g)
  open_mask : ∀ g i j, Cert.ReferenceIdeal.Body.graph mask g i j ≠ ⊤
  query : IsReal (Cert.ReferenceIdeal.Body.mat wq)
  key : IsReal (Cert.ReferenceIdeal.Body.mat wk)
  bq : ∀ d, b3 (ix1 d) = 0
  bk : ∀ d, b5 (ix1 d) = 0
  bv : ∀ d, b7 (ix1 d) = 0
  bo : ∀ d, b9 (ix1 d) = 0
  gain1 : ∀ d, a10 (ix1 d) = 1
  shift1 : ∀ d, b11 (ix1 d) = 0
  gain2 : ∀ d, a12 (ix1 d) = 1
  shift2 : ∀ d, b13 (ix1 d) = 0
  bup : ∀ d, b15 (ix1 d) = 0
  bdown : ∀ d, b17 (ix1 d) = 0

/-- An array that equals a constant everywhere, read at an index. -/
theorem const_of_test {s : Shape} (x y : FVec Ideal s .f32) (b : BitVec 32) (v : EReal) (hb : Ideal.ofBits .f32 b = v)
    (hy : ∀ i, y i = Ideal.ofBits .f32 b) (h : cmpf .oeq x y = fun _ => 1#1) (i : s.Idx) : x i = v :=
  (eq_of_test x y h i).trans ((hy i).trans hb)

theorem zero_bits : Ideal.ofBits .f32 0x00000000#32 = 0 := by simp [Ideal.ofBits, Ideal.ieee]
theorem one_bits : Ideal.ofBits .f32 0x3F800000#32 = 1 := Ideal.ofBits_one_f32

theorem holds (m : (ℓ : Loc Cert.KernelIdeal.nD Cert.KernelIdeal.τ Cert.KernelIdeal.sig) → Buf (Elt Ideal) ℓ)
    (h : Cert.Pre_KernelIdeal_as_initialised m) (c : Dev Cert.KernelIdeal.nD) :
    Holds (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg17)) := by
  obtain ⟨hx, hm, hq, hk, h3, h5, h7, h9, h10, h11, h12, h13, h15, h17⟩ := h c
  dsimp only [Cert.Pre_as_initialised.fn, Cert.Pre_as_initialised.fn_part1] at hx hm hq hk h3 h5 h7 h9 h10 h11 h12 h13 h15 h17
  exact {
    row := fun g => isReal_of _ fun i e => lt_of_test _ _ hx (ix3 g i e)
    open_mask := fun g i j => ((lt_of_test _ _ hm (ix3 g i j)).trans_le le_top).ne
    query := isReal_of _ fun i e => lt_of_test _ _ hq (ix2 i e)
    key := isReal_of _ fun i e => lt_of_test _ _ hk (ix2 i e)
    bq := fun d => const_of_test _ _ _ _ zero_bits (fun _ => rfl) h3 (ix1 d)
    bk := fun d => const_of_test _ _ _ _ zero_bits (fun _ => rfl) h5 (ix1 d)
    bv := fun d => const_of_test _ _ _ _ zero_bits (fun _ => rfl) h7 (ix1 d)
    bo := fun d => const_of_test _ _ _ _ zero_bits (fun _ => rfl) h9 (ix1 d)
    gain1 := fun d => const_of_test _ _ _ _ one_bits (fun _ => rfl) h10 (ix1 d)
    shift1 := fun d => const_of_test _ _ _ _ zero_bits (fun _ => rfl) h11 (ix1 d)
    gain2 := fun d => const_of_test _ _ _ _ one_bits (fun _ => rfl) h12 (ix1 d)
    shift2 := fun d => const_of_test _ _ _ _ zero_bits (fun _ => rfl) h13 (ix1 d)
    bup := fun d => const_of_test _ _ _ _ zero_bits (fun _ => rfl) h15 (ix1 d)
    bdown := fun d => const_of_test _ _ _ _ zero_bits (fun _ => rfl) h17 (ix1 d) }

end Cert.Given

end
-- ==== Proof.Vocab.lean ====
/- One graph's attention as the kernel computes it, stated once for every graph `g` of a block and every head `h`.
   The kernel's printed body spells the same chain of operations out for each of the 32 graphs and 6 heads; the terms
   here are that chain with `g` and `h` as variables. -/
module

public import proofs.«01_k».proof.Proof.Gen.KernelIdeal.Skeleton
public import proofs.«01_k».proof.Proof.Gen.KernelIdeal.Frame

@[expose] public section

set_option synthInstance.maxSize 4096
set_option maxRecDepth 16384

noncomputable section

namespace Cert.KernelIdeal.Body

open Idealize.ShloMosaic Idealize.SL.Sem Cert.KernelIdeal.Gen

variable {F : FTy → Type} [FloatOps F] [Named F]

/-! ## Shape facts, for every graph and head -/

theorem slices90 : ∀ g : Fin 32, S4096x90.Slices ![g.val * 128, 0] S90x90 := by decide
theorem slices128 : ∀ g : Fin 32, S4096x90.Slices ![g.val * 128, 0] S128x90 := by decide
theorem slicesHead : ∀ h : Fin 6, S90x768.Slices ![0, h.val * 128] S90x128 := by decide
theorem inbMask : ∀ (g : Fin 32) a, (![g.val, 0, 0] : Fin 3 → Nat) a + S1x90x90.size a ≤ S32x90x90.size a := by decide
theorem inbP : ∀ (g : Fin 32) (h : Fin 6) a,
    (![g.val, h.val, 0, 0] : Fin 4 → Nat) a + S1x1x90x90.size a ≤ S32x6x90x90.size a := by decide

/-! ## The terms -/

/-- The 0/1 row of head `h`: 1 on the 15 lanes of that head. -/
def hm (h : Fin 6) : FVec F S1x90 .f32 :=
  sitofp .f32 (extui 32 (cmpi .eq k0_pay5 (broadcast S1x90 (BitVec.ofNat 32 h.val))) natLt_1_32)

/-- Rows of graph `g` masked to head `h`. -/
def masked (g : Fin 32) (h : Fin 6) (a : FVec F S4096x90 .f32) : FVec F S128x90 .f32 :=
  mulf (extractStridedSlice S128x90 ![g.val * 128, 0] a (slices128 g)) (broadcastTo S128x90 (hm h) broadcasts_S1x90_S128x90)

/-- The keys of graph `g` for all six heads, stacked. -/
def kbig (g : Fin 32) (k : FVec F S4096x90 .f32) : FVec F S768x90 .f32 :=
  concatenate S768x90 0 (List.ofFn fun h : Fin 6 => ⟨S128x90, masked g h k⟩)
    concatenates_S128x90_S128x90_S128x90_S128x90_S128x90_S128x90_S768x90_d0

/-- The scores of graph `g` for all six heads, side by side. -/
def score (g : Fin 32) (q k : FVec F S4096x90 .f32) : FVec F S90x768 .f32 :=
  matmul dot_S90x90_S768x90_S90x768_1_1_0_0_n_n none
    (extractStridedSlice S90x90 ![g.val * 128, 0] q (slices90 g)) (kbig g k) (constant S90x768 .f32 0x00000000#32)

/-- The mask of one graph, scaled, with the padding columns at −∞. -/
def mpad (mb : Vec F S1x90x90 .f32) : FVec F S90x128 .f32 :=
  concatenate S90x128 1
    [⟨S90x90, mulf (shapeCast S90x90 mb shapeCasts_S1x90x90_S90x90)
        (broadcast S90x90 (Named.named κ "log2e" 0x3FB8AA3B#32 : F .f32))⟩,
      ⟨S90x38, broadcast S90x38 (Scalar.ofBits .f32 0xFF800000#32 : F .f32)⟩]
    concatenates_S90x90_S90x38_S90x128_d1

/-- The exponentials of head `h`. -/
def eh (h : Fin 6) (s : FVec F S90x768 .f32) (mp : FVec F S90x128 .f32) : FVec F S90x128 .f32 :=
  exp2 (addf (extractStridedSlice S90x128 ![0, h.val * 128] s (slicesHead h)) mp)

/-- Each row over its sum. -/
def norm (e : FVec F S90x128 .f32) : FVec F S90x128 .f32 :=
  divf e (broadcastTo S90x128 (shapeCast S90x1 (multiReduction .add [1] S90 e 0x00000000#32 reduces_S90x128_S90 (.inl rfl) rfl)
    shapeCasts_S90_S90x1) broadcasts_S90x1_S90x128)

/-- The attention weights of graph `g` and head `h`, with padding columns. -/
def prob (g : Fin 32) (h : Fin 6) (q k : FVec F S4096x90 .f32) (mb : Vec F S1x90x90 .f32) : FVec F S90x128 .f32 :=
  norm (eh h (score g q k) (mpad mb))

/-- What the kernel stores of them. -/
def probOut (g : Fin 32) (h : Fin 6) (q k : FVec F S4096x90 .f32) (mb : Vec F S1x90x90 .f32) : FVec F S1x1x90x90 .f32 :=
  shapeCast S1x1x90x90 (extractStridedSlice S90x90 ![0, 0] (prob g h q k mb) slices_S90x128_o0_0_S90x90)
    shapeCasts_S90x90_S1x1x90x90

/-- Head `h`'s part of the context of graph `g`. -/
def part (g : Fin 32) (h : Fin 6) (q k v : FVec F S4096x90 .f32) (mb : Vec F S1x90x90 .f32) : FVec F S90x90 .f32 :=
  matmul dot_S90x128_S128x90_S90x90_1_0_0_1_n_n none (prob g h q k mb) (masked g h v) (constant S90x90 .f32 0x00000000#32)

/-- The context of graph `g`, its six parts added, with six zero rows below. -/
def ctx (g : Fin 32) (q k v : FVec F S4096x90 .f32) (mb : Vec F S1x90x90 .f32) : FVec F S96x90 .f32 :=
  concatenate S96x90 0
    [⟨S90x90, addf (addf (addf (part g 0 q k v mb) (part g 1 q k v mb)) (addf (part g 2 q k v mb) (part g 3 q k v mb)))
        (addf (part g 4 q k v mb) (part g 5 q k v mb))⟩,
      ⟨S6x90, broadcast S6x90 (Scalar.ofBits .f32 0x00000000#32 : F .f32)⟩]
    concatenates_S90x90_S6x90_S96x90_d0

/-- The mask rows of graph `g` of a block. -/
def maskOf (x1 : Vec F S32x90x90 .f32) (g : Fin 32) : Vec F S1x90x90 .f32 :=
  View.ld x1 (Rect.unit (s := S32x90x90) ![g.val, 0, 0] S1x90x90.size (inbMask g))

/-- The contexts of all 32 graphs, stacked. -/
def ctxAll (q k v : FVec F S4096x90 .f32) (x1 : Vec F S32x90x90 .f32) : FVec F S3072x90 .f32 :=
  concatenate S3072x90 0 (List.ofFn fun g : Fin 32 => ⟨S96x90, ctx g q k v (maskOf x1 g)⟩)
    concatenates_S96x90_S96x90_S96x90_S96x90_S96x90_S96x90_S96x90_S96x90_S96x90_S96x90_S96x90_S96x90_S96x90_S96x90_S96x90_S96x90_S96x90_S96x90_S96x90_S96x90_S96x90_S96x90_S96x90_S96x90_S96x90_S96x90_S96x90_S96x90_S96x90_S96x90_S96x90_S96x90_S3072x90_d0

/-! ## The last stage: projection, normalisation, feed-forward, normalisation -/

/-- `y` plus its normalised deviation from the row mean. -/
def lnRes (y : FVec F S3072x90 .f32) : FVec F S3072x90 .f32 :=
  have z := subf y (broadcastTo S3072x90 (divf (shapeCast S3072x1
    (multiReduction .add [1] S3072 y 0x00000000#32 reduces_S3072x90_S3072 (.inl rfl) rfl) shapeCasts_S3072_S3072x1)
    (broadcast S3072x1 (Scalar.ofBits .f32 0x42B40000#32 : F .f32))) broadcasts_S3072x1_S3072x90)
  addf y (mulf z (broadcastTo S3072x90 (divf (broadcast S3072x1 (Scalar.ofBits .f32 0x3F800000#32 : F .f32))
    (addf (sqrt (mulf (shapeCast S3072x1
      (multiReduction .add [1] S3072 (mulf z z) 0x00000000#32 reduces_S3072x90_S3072 (.inl rfl) rfl) shapeCasts_S3072_S3072x1)
      (broadcast S3072x1 (Named.named κ "inv_89" 0x3C381703#32 : F .f32))))
      (broadcast S3072x1 (Scalar.ofBits .f32 0x358637BD#32 : F .f32)))) broadcasts_S3072x1_S3072x90))

/-- The gelu activation, by its tanh form. -/
def gelu (u : FVec F S3072x180 .f32) : FVec F S3072x180 .f32 :=
  mulf (mulf (broadcast S3072x180 (Scalar.ofBits .f32 0x3F000000#32 : F .f32)) u)
    (addf (broadcast S3072x180 (Scalar.ofBits .f32 0x3F800000#32 : F .f32))
      (tanh (mulf (broadcast S3072x180 (Scalar.ofBits .f32 0x3F4C422A#32 : F .f32))
        (addf u (mulf (mulf (mulf (broadcast S3072x180 (Scalar.ofBits .f32 0x3D372713#32 : F .f32)) u) u) u)))))

/-- Context rows to output rows. -/
def rowsOut (c : FVec F S3072x90 .f32) (wo : FVec F S90x90 .f32) (w1 : FVec F S90x180 .f32) (w2 : FVec F S180x90 .f32) :
    FVec F S3072x90 .f32 :=
  lnRes (matmul dot_S3072x180_S180x90_S3072x90_1_0_0_1_n_n none
    (gelu (matmul dot_S3072x90_S90x180_S3072x180_1_0_0_1_n_n none
      (lnRes (matmul dot_S3072x90_S90x90_S3072x90_1_0_0_1_n_n none c wo (constant S3072x90 .f32 0x00000000#32)))
      w1 (constant S3072x180 .f32 0x00000000#32))) w2 (constant S3072x90 .f32 0x00000000#32))

/-- The block of the first result: the real 90 of every 96 rows. -/
def outBlock (r : FVec F S3072x90 .f32) : FVec F S32x90x90 .f32 :=
  extractStridedSlice S32x90x90 ![0, 0, 0] (shapeCast S32x96x90 r shapeCasts_S3072x90_S32x96x90)
    slices_S32x96x90_o0_0_0_S32x90x90

/-! ## The printed body is these terms -/

/-- The three projections of a block. -/
def qOf (x0 : Vec F S32x90x90 .f32) (x2 : Vec F S90x90 .f32) : FVec F S4096x90 .f32 :=
  k0_pay2 (View.ld x0 r0_0) (View.ld x2 r0_1)
def kOf (x0 : Vec F S32x90x90 .f32) (x3 : Vec F S90x90 .f32) : FVec F S4096x90 .f32 :=
  k0_pay3 (View.ld x0 r0_0) (View.ld x3 r0_1)
def vOf (x0 : Vec F S32x90x90 .f32) (x4 : Vec F S90x90 .f32) : FVec F S4096x90 .f32 :=
  k0_pay4 (View.ld x0 r0_0) (View.ld x4 r0_1)

/-- The graph and the head of store `n`, the last store first. -/
def gOf (n : Fin 192) : Fin 32 := ⟨(191 - n.val) / 6, by omega⟩
def hOf (n : Fin 192) : Fin 6 := ⟨(191 - n.val) % 6, by omega⟩

theorem out8_eq (x0 x1 : Vec F S32x90x90 .f32) (x2 x3 x4 x5 : Vec F S90x90 .f32) (x6 : Vec F S90x180 .f32)
    (x7 : Vec F S180x90 .f32) :
    out0_8 x0 x1 x2 x3 x4 x5 x6 x7 = View.canon [⟨r0_0, outBlock (rowsOut
      (ctxAll (qOf x0 x2) (kOf x0 x3) (vOf x0 x4) x1) (View.ld x5 r0_1) (View.ld x6 r0_226) (View.ld x7 r0_227))⟩] := rfl

theorem out9_eq (x0 x1 : Vec F S32x90x90 .f32) (x2 x3 x4 x5 : Vec F S90x90 .f32) (x6 : Vec F S90x180 .f32)
    (x7 : Vec F S180x90 .f32) :
    out0_9 x0 x1 x2 x3 x4 x5 x6 x7 = View.canon (List.ofFn fun n : Fin 192 =>
      ⟨Rect.unit (s := S32x6x90x90) ![(gOf n).val, (hOf n).val, 0, 0] S1x1x90x90.size (inbP (gOf n) (hOf n)),
        probOut (gOf n) (hOf n) (qOf x0 x2) (kOf x0 x3) (maskOf x1 (gOf n))⟩) := rfl

end Cert.KernelIdeal.Body

end
-- ==== Proof.KernelRead.lean ====
/- The kernel's terms read at an index, over the extended reals. -/
module

public import proofs.«01_k».proof.Proof.Vocab
public import proofs.«01_k».proof.Proof.Model
public import Idealize.ShloMosaic.Lib.Pointwise
public import Idealize.ShloMosaic.Lib.Pipeline.ValueKit

@[expose] public section

set_option synthInstance.maxSize 4096
set_option maxRecDepth 16384

noncomputable section

namespace Cert.KernelIdeal.Body

open Idealize.ShloMosaic Idealize.SL.Sem Cert.KernelIdeal.Gen Cert.Model

/-- Row `j` of graph `g` of a block. -/
def row (g : Fin 32) (j : Fin 128) : Fin 4096 := ⟨g.val * 128 + j.val, by omega⟩

theorem k5_at : ∀ d : Fin 90, k0_pay5 (ix2 0 d) = BitVec.ofNat 32 (d.val / 15) := by decide +kernel

theorem lane_word : ∀ (h : Fin 6) (n : Fin 6), IntOp.cmpi .eq (BitVec.ofNat 32 n.val) (BitVec.ofNat 32 h.val)
    = if n.val = h.val then 1#1 else 0#1 := by decide +kernel

theorem hm_at (h : Fin 6) (d : Fin 90) : hm (F := Ideal) h (ix2 0 d) = lane h d := by
  pointwise [hm, k5_at]
  rw [lane_word h ⟨d.val / 15, by omega⟩]
  unfold lane
  show ((BitVec.toInt _ : ℝ) : EReal) = _
  by_cases e : d.val / 15 = h.val <;> simp [e]

theorem masked_at (g : Fin 32) (h : Fin 6) (a : FVec Ideal S4096x90 .f32) (j : Fin 128) (d : Fin 90) :
    masked g h a (ix2 j d) = a (ix2 (row g j) d) * lane h d := by
  pointwise [masked, hm_at]
  rfl

theorem kbig_at (g : Fin 32) (k : FVec Ideal S4096x90 .f32) (h : Fin 6) (j : Fin 128) (d : Fin 90) :
    kbig g k (ix2 ⟨h.val * 128 + j.val, by omega⟩ d) = k (ix2 (row g j) d) * lane h d := by
  rw [← masked_at]
  exact concatenate_ofFn_apply (t := S768x90) (s₁ := S128x90) 0 (fun h : Fin 6 => masked g h k) _ rfl 128 rfl _ h
    (by show (h.val * 128 + j.val) / 128 = h.val; omega) (ix2 j d)
    (by show j.val = (h.val * 128 + j.val) % 128; omega) fun b hb => by
      match b with
      | ⟨0, _⟩ => exact absurd rfl hb
      | ⟨1, _⟩ => rfl

theorem score_at (g : Fin 32) (q k : FVec Ideal S4096x90 .f32) (h : Fin 6) (i : Fin 90) (j : Fin 128) :
    score g q k (ix2 i ⟨h.val * 128 + j.val, by omega⟩)
      = ∑ d, q (ix2 (row g ⟨i.val, by omega⟩) d) * (k (ix2 (row g j) d) * lane h d) := by
  pointwise [score]
  exact Finset.sum_congr rfl fun d _ => by rw [kbig_at]; rfl

theorem log2e_eq : (Named.named κ "log2e" 0x3FB8AA3B#32 : Ideal .f32) = (((Real.log 2)⁻¹ : ℝ) : EReal) :=
  IdealRules.named_const.ideal_named_scalar _ _ _ _ rfl
theorem log2e_over_root_eq : (Named.named κ "log2e_over_root" 0x3EBEB89E#32 : Ideal .f32)
    = (((Real.log 2)⁻¹ * (Real.sqrt 15)⁻¹ : ℝ) : EReal) :=
  IdealRules.named_const.ideal_named_scalar _ _ _ _ rfl
theorem inv_89_eq : (Named.named κ "inv_89" 0x3C381703#32 : Ideal .f32) = ((1 / 89 : ℝ) : EReal) :=
  IdealRules.named_const.ideal_named_scalar _ _ _ _ rfl
theorem negInf_eq : Ideal.ofBits .f32 0xFF800000#32 = ⊥ := by simp [Ideal.ofBits, Ideal.ieee]

theorem mpad_at (mb : FVec Ideal S1x90x90 .f32) (i : Fin 90) (j : Fin 128) :
    mpad mb (ix2 i j) = if hj : j.val < 90 then mb (ix3 0 i ⟨j.val, hj⟩) * (((Real.log 2)⁻¹ : ℝ) : EReal) else ⊥ := by
  pointwise [mpad]
  by_cases hj : j.val < 90
  · simp only [dif_pos hj]; rw [log2e_eq]
  · simp only [dif_neg hj]; exact negInf_eq

theorem eh_at (h : Fin 6) (s : FVec Ideal S90x768 .f32) (mp : FVec Ideal S90x128 .f32) (i : Fin 90) (j : Fin 128) :
    eh h s mp (ix2 i j) = Ideal.exp2 (s (ix2 i ⟨h.val * 128 + j.val, by omega⟩) + mp (ix2 i j)) := by
  pointwise [eh]
  rfl

theorem norm_at (e : FVec Ideal S90x128 .f32) (i : Fin 90) (j : Fin 128) :
    norm e (ix2 i j) = Ideal.div (e (ix2 i j)) (∑ l : Fin 128, e (ix2 i l)) := by
  pointwise [norm]

/-- The base-2 exponent of one weight: the masked score plus the scaled mask, −∞ in a padding column. -/
def expo (g : Fin 32) (h : Fin 6) (q k : FVec Ideal S4096x90 .f32) (mb : FVec Ideal S1x90x90 .f32)
    (i : Fin 90) (j : Fin 128) : EReal :=
  (∑ d, q (ix2 (row g ⟨i.val, by omega⟩) d) * (k (ix2 (row g j) d) * lane h d))
    + if hj : j.val < 90 then mb (ix3 0 i ⟨j.val, hj⟩) * (((Real.log 2)⁻¹ : ℝ) : EReal) else ⊥

theorem prob_at (g : Fin 32) (h : Fin 6) (q k : FVec Ideal S4096x90 .f32) (mb : FVec Ideal S1x90x90 .f32)
    (i : Fin 90) (j : Fin 128) :
    prob g h q k mb (ix2 i j)
      = Ideal.div (Ideal.exp2 (expo g h q k mb i j)) (∑ l : Fin 128, Ideal.exp2 (expo g h q k mb i l)) := by
  have e : ∀ l : Fin 128, eh h (score g q k) (mpad mb) (ix2 i l) = Ideal.exp2 (expo g h q k mb i l) := fun l => by
    rw [eh_at, score_at, mpad_at]; rfl
  unfold prob
  rw [norm_at, e]
  simp only [e]

theorem probOut_at (g : Fin 32) (h : Fin 6) (q k : FVec Ideal S4096x90 .f32) (mb : FVec Ideal S1x90x90 .f32)
    (i j : Fin 90) :
    probOut g h q k mb (ix4 0 0 i j) = prob g h q k mb (ix2 i ⟨j.val, by omega⟩) := by
  pointwise [probOut]

theorem part_at (g : Fin 32) (h : Fin 6) (q k v : FVec Ideal S4096x90 .f32) (mb : FVec Ideal S1x90x90 .f32)
    (i d : Fin 90) :
    part g h q k v mb (ix2 i d)
      = ∑ j : Fin 128, prob g h q k mb (ix2 i j) * (v (ix2 (row g j) d) * lane h d) := by
  pointwise [part, masked_at]

/-- The context of graph `g` at row `i`, lane `d`: its six parts added. -/
theorem ctx_at (g : Fin 32) (q k v : FVec Ideal S4096x90 .f32) (mb : FVec Ideal S1x90x90 .f32) (i d : Fin 90) :
    ctx g q k v mb (ix2 ⟨i.val, by omega⟩ d) = ∑ h : Fin 6, part g h q k v mb (ix2 i d) := by
  pointwise [ctx]
  rw [Fin.sum_univ_six]
  ac_rfl

theorem ctxAll_at (q k v : FVec Ideal S4096x90 .f32) (x1 : FVec Ideal S32x90x90 .f32) (g : Fin 32) (i d : Fin 90) :
    ctxAll q k v x1 (ix2 ⟨g.val * 96 + i.val, by omega⟩ d)
      = ∑ h : Fin 6, part g h q k v (maskOf x1 g) (ix2 i d) := by
  rw [← ctx_at]
  exact concatenate_ofFn_apply (t := S3072x90) (s₁ := S96x90) 0 (fun g : Fin 32 => ctx g q k v (maskOf x1 g)) _ rfl 96 rfl _ g
    (by show (g.val * 96 + i.val) / 96 = g.val; omega) (ix2 ⟨i.val, by omega⟩ d)
    (by show i.val = (g.val * 96 + i.val) % 96; omega) fun b hb => by
      match b with
      | ⟨0, _⟩ => exact absurd rfl hb
      | ⟨1, _⟩ => rfl

theorem maskOf_at (x1 : FVec Ideal S32x90x90 .f32) (g : Fin 32) (i j : Fin 90) :
    maskOf (F := Ideal) x1 g (ix3 0 i j) = x1 (ix3 g i j) := by
  pointwise [maskOf]

theorem outBlock_at (r : FVec Ideal S3072x90 .f32) (g : Fin 32) (i d : Fin 90) :
    outBlock r (ix3 g i d) = r (ix2 ⟨g.val * 96 + i.val, by omega⟩ d) := by
  pointwise [outBlock]

theorem qOf_at (x0 : FVec Ideal S32x90x90 .f32) (x2 : FVec Ideal S90x90 .f32) (g : Fin 32) (j : Fin 128) (d : Fin 90) :
    qOf x0 x2 (ix2 (row g j) d) = ∑ e, (if hj : j.val < 90 then x0 (ix3 g ⟨j.val, hj⟩ e) else 0)
      * (x2 (ix2 e d) * (((Real.log 2)⁻¹ * (Real.sqrt 15)⁻¹ : ℝ) : EReal)) := by
  pointwise [qOf, k0_pay2, k0_pay1, row]
  rw [log2e_over_root_eq]

theorem kOf_at (x0 : FVec Ideal S32x90x90 .f32) (x3 : FVec Ideal S90x90 .f32) (g : Fin 32) (j : Fin 128) (d : Fin 90) :
    kOf x0 x3 (ix2 (row g j) d)
      = ∑ e, (if hj : j.val < 90 then x0 (ix3 g ⟨j.val, hj⟩ e) else 0) * x3 (ix2 e d) := by
  pointwise [kOf, k0_pay3, k0_pay1, row]

theorem vOf_at (x0 : FVec Ideal S32x90x90 .f32) (x4 : FVec Ideal S90x90 .f32) (g : Fin 32) (j : Fin 128) (d : Fin 90) :
    vOf x0 x4 (ix2 (row g j) d)
      = ∑ e, (if hj : j.val < 90 then x0 (ix3 g ⟨j.val, hj⟩ e) else 0) * x4 (ix2 e d) := by
  pointwise [vOf, k0_pay4, k0_pay1, row]

/-! ## The last stage at a row -/

theorem lnRes_at (y : FVec Ideal S3072x90 .f32) (r : Fin 3072) (d : Fin 90) :
    lnRes y (ix2 r d) = lnK (fun e => y (ix2 r e)) d := by
  pointwise [lnRes]
  rw [inv_89_eq]
  rfl

theorem gelu_at (u : FVec Ideal S3072x180 .f32) (r : Fin 3072) (f : Fin 180) :
    gelu u (ix2 r f) = geluK (u (ix2 r f)) := by
  pointwise [gelu]
  rfl

theorem rowsOut_at (c : FVec Ideal S3072x90 .f32) (wo : FVec Ideal S90x90 .f32) (w1 : FVec Ideal S90x180 .f32)
    (w2 : FVec Ideal S180x90 .f32) (r : Fin 3072) (d : Fin 90) :
    rowsOut c wo w1 w2 (ix2 r d) = rowK (fun a b => wo (ix2 a b)) (fun a b => w1 (ix2 a b)) (fun a b => w2 (ix2 a b)) (fun e => c (ix2 r e)) d := by
  unfold rowsOut rowK
  rw [lnRes_at]
  congr 1; funext d
  pointwise [gelu_at, lnRes_at]

/-! ## A block's stores, graph by graph -/

theorem q_at (x0 : FVec Ideal S32x90x90 .f32) (x2 : FVec Ideal S90x90 .f32) (g : Fin 32) (j : Fin 128) (d : Fin 90) :
    qOf (F := Ideal) x0 x2 (ix2 (row g j) d) = projK (fun a b => x0 (ix3 g a b)) (scaled fun a b => x2 (ix2 a b)) j d := qOf_at x0 x2 g j d
theorem k_at (x0 : FVec Ideal S32x90x90 .f32) (x3 : FVec Ideal S90x90 .f32) (g : Fin 32) (j : Fin 128) (d : Fin 90) :
    kOf (F := Ideal) x0 x3 (ix2 (row g j) d) = projK (fun a b => x0 (ix3 g a b)) (fun a b => x3 (ix2 a b)) j d := kOf_at x0 x3 g j d
theorem v_at (x0 : FVec Ideal S32x90x90 .f32) (x4 : FVec Ideal S90x90 .f32) (g : Fin 32) (j : Fin 128) (d : Fin 90) :
    vOf (F := Ideal) x0 x4 (ix2 (row g j) d) = projK (fun a b => x0 (ix3 g a b)) (fun a b => x4 (ix2 a b)) j d := vOf_at x0 x4 g j d

theorem expo_at (x0 x1 : FVec Ideal S32x90x90 .f32) (x2 x3 : FVec Ideal S90x90 .f32) (g : Fin 32) (h : Fin 6)
    (i : Fin 90) (j : Fin 128) :
    expo g h (qOf (F := Ideal) x0 x2) (kOf (F := Ideal) x0 x3) (maskOf (F := Ideal) x1 g) i j
      = expoK (fun a b => x0 (ix3 g a b)) (fun a b => x1 (ix3 g a b)) (fun a b => x2 (ix2 a b)) (fun a b => x3 (ix2 a b)) h i j := by
  unfold expo expoK
  simp only [q_at, k_at]
  by_cases hj : j.val < 90
  · simp only [dif_pos hj, maskOf_at]
  · simp only [dif_neg hj]

theorem prob_eq (x0 x1 : FVec Ideal S32x90x90 .f32) (x2 x3 : FVec Ideal S90x90 .f32) (g : Fin 32) (h : Fin 6)
    (i : Fin 90) (j : Fin 128) :
    prob (F := Ideal) g h (qOf x0 x2) (kOf x0 x3) (maskOf (F := Ideal) x1 g) (ix2 i j)
      = probK (fun a b => x0 (ix3 g a b)) (fun a b => x1 (ix3 g a b)) (fun a b => x2 (ix2 a b)) (fun a b => x3 (ix2 a b)) h i j := by
  rw [prob_at]
  simp only [expo_at]
  rfl

theorem ctx_eq (x0 x1 : FVec Ideal S32x90x90 .f32) (x2 x3 x4 : FVec Ideal S90x90 .f32) (g : Fin 32) (i d : Fin 90) :
    ctxAll (F := Ideal) (qOf x0 x2) (kOf x0 x3) (vOf x0 x4) x1 (ix2 ⟨g.val * 96 + i.val, by omega⟩ d)
      = ctxK (fun a b => x0 (ix3 g a b)) (fun a b => x1 (ix3 g a b)) (fun a b => x2 (ix2 a b)) (fun a b => x3 (ix2 a b))
          (fun a b => x4 (ix2 a b)) i d := by
  rw [ctxAll_at]
  unfold ctxK
  simp only [part_at, prob_eq, v_at]

/-- The first result's block at graph `g`, row `i`, lane `d`. -/
theorem out_at (x0 x1 : FVec Ideal S32x90x90 .f32) (x2 x3 x4 x5 : FVec Ideal S90x90 .f32) (x6 : FVec Ideal S90x180 .f32)
    (x7 : FVec Ideal S180x90 .f32) (g : Fin 32) (i d : Fin 90) :
    outBlock (F := Ideal) (rowsOut (ctxAll (qOf x0 x2) (kOf x0 x3) (vOf x0 x4) x1) x5 x6 x7) (ix3 g i d)
      = rowK (fun a b => x5 (ix2 a b)) (fun a b => x6 (ix2 a b)) (fun a b => x7 (ix2 a b))
          (ctxK (fun a b => x0 (ix3 g a b)) (fun a b => x1 (ix3 g a b)) (fun a b => x2 (ix2 a b)) (fun a b => x3 (ix2 a b))
          (fun a b => x4 (ix2 a b)) i) d := by
  rw [outBlock_at, rowsOut_at]
  simp only [ctx_eq]

end Cert.KernelIdeal.Body
-- ==== Proof.KernelValue.lean ====
/- The two result arrays after the kernel's run, element by element. -/
module

public import proofs.«01_k».proof.Proof.KernelRead
public import proofs.«01_k».proof.Proof.Gen.KernelIdeal.Value

@[expose] public section

set_option synthInstance.maxSize 4096
set_option maxRecDepth 16384

noncomputable section

namespace Cert.KernelIdeal.Body

open Idealize.ShloMosaic Idealize.ShloMosaic.TcCoe Idealize.SL.Sem Cert.KernelIdeal.Gen Cert.Model
open Idealize.ShloMosaic.Pipeline (Dat)

variable (m : (ℓ : Loc nD τ sig) → Buf (Elt Ideal) ℓ)

/-- Each window's block index at a grid point. -/
theorem idx : ∀ t : Fin cfg0.N, win0_0.index t = ![t.val, 0, 0] ∧ win0_1.index t = ![t.val, 0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![t.val, 0, 0] ∧ win0_9.index t = ![t.val, 0, 0, 0] :=
  (by decide +kernel : ∀ t : Fin grid0.N, _)

/-- The arguments as mathematical arrays. -/
def X (c : Dev nD) (b : Fin 512) : Mat := fun i j => (show FVec Ideal S512x90x90 .f32 from m ((c : Thread nD τ).loc main_arg0)) (ix3 b i j)
def M (c : Dev nD) (b : Fin 512) : Mat := fun i j => (show FVec Ideal S512x90x90 .f32 from m ((c : Thread nD τ).loc main_arg1)) (ix3 b i j)
def Wq (c : Dev nD) : Mat := fun i j => (show FVec Ideal S90x90 .f32 from m ((c : Thread nD τ).loc main_arg2)) (ix2 i j)
def Wk (c : Dev nD) : Mat := fun i j => (show FVec Ideal S90x90 .f32 from m ((c : Thread nD τ).loc main_arg4)) (ix2 i j)
def Wv (c : Dev nD) : Mat := fun i j => (show FVec Ideal S90x90 .f32 from m ((c : Thread nD τ).loc main_arg6)) (ix2 i j)
def Wo (c : Dev nD) : Mat := fun i j => (show FVec Ideal S90x90 .f32 from m ((c : Thread nD τ).loc main_arg8)) (ix2 i j)
def W1 (c : Dev nD) : Fin 90 → Fin 180 → EReal :=
  fun i j => (show FVec Ideal S90x180 .f32 from m ((c : Thread nD τ).loc main_arg14)) (ix2 i j)
def W2 (c : Dev nD) : Fin 180 → Fin 90 → EReal :=
  fun i j => (show FVec Ideal S180x90 .f32 from m ((c : Thread nD τ).loc main_arg16)) (ix2 i j)

/-! ## The input blocks of a grid point -/

theorem t_lt (t : Fin cfg0.N) : t.val < 16 := lt_of_lt_of_eq t.isLt (by decide)

/-- Graph `g` of point `t`'s block. -/
def graph (t : Fin cfg0.N) (g : Fin 32) : Fin 512 := ⟨t.val * 32 + g.val, by have := t_lt t; omega⟩

theorem blk0 (c : Dev nD) (t : Fin cfg0.N) (g : Fin 32) :
    (fun a b => (show FVec Ideal S32x90x90 .f32 from iblk m c 0 t) (ix3 g a b)) = X m c (graph t g) := by
  funext a b; unfold X graph
  blk_ext [iblk, V, idx t]
theorem blk1 (c : Dev nD) (t : Fin cfg0.N) (g : Fin 32) :
    (fun a b => (show FVec Ideal S32x90x90 .f32 from iblk m c 1 t) (ix3 g a b)) = M m c (graph t g) := by
  funext a b; unfold M graph
  blk_ext [iblk, V, idx t]
theorem blk2 (c : Dev nD) (t : Fin cfg0.N) :
    (fun a b => (show FVec Ideal S90x90 .f32 from iblk m c 2 t) (ix2 a b)) = Wq m c := by
  funext a b; unfold Wq
  blk_ext [iblk, V, idx t]
theorem blk3 (c : Dev nD) (t : Fin cfg0.N) :
    (fun a b => (show FVec Ideal S90x90 .f32 from iblk m c 3 t) (ix2 a b)) = Wk m c := by
  funext a b; unfold Wk
  blk_ext [iblk, V, idx t]
theorem blk4 (c : Dev nD) (t : Fin cfg0.N) :
    (fun a b => (show FVec Ideal S90x90 .f32 from iblk m c 4 t) (ix2 a b)) = Wv m c := by
  funext a b; unfold Wv
  blk_ext [iblk, V, idx t]
theorem blk5 (c : Dev nD) (t : Fin cfg0.N) :
    (fun a b => (show FVec Ideal S90x90 .f32 from iblk m c 5 t) (ix2 a b)) = Wo m c := by
  funext a b; unfold Wo
  blk_ext [iblk, V, idx t]
theorem blk6 (c : Dev nD) (t : Fin cfg0.N) :
    (fun a b => (show FVec Ideal S90x180 .f32 from iblk m c 6 t) (ix2 a b)) = W1 m c := by
  funext a b; unfold W1
  blk_ext [iblk, V, idx t]
theorem blk7 (c : Dev nD) (t : Fin cfg0.N) :
    (fun a b => (show FVec Ideal S180x90 .f32 from iblk m c 7 t) (ix2 a b)) = W2 m c := by
  funext a b; unfold W2
  blk_ext [iblk, V, idx t]

/-! ## The result arrays -/

/-- The attention weights, as an array. -/
def pArr (c : Dev nD) : FVec Ideal S512x6x90x90 .f32 := fun y =>
  probK (X m c (y 0)) (M m c (y 0)) (Wq m c) (Wk m c) (y 1) (y 2) ⟨(y 3).val, lt_trans (y 3).isLt (by decide)⟩

/-- The first result, as an array. -/
def outArr (c : Dev nD) : FVec Ideal S512x90x90 .f32 := fun y =>
  rowK (Wo m c) (W1 m c) (W2 m c) (ctxK (X m c (y 0)) (M m c (y 0)) (Wq m c) (Wk m c) (Wv m c) (y 1)) (y 2)

theorem stored9 (c : Dev nD) (t : Fin cfg0.N) (g : Fin 32) (h : Fin 6) (i j : Fin 90) :
    probOut (F := Ideal) g h (qOf (iblk m c 0 t) (iblk m c 2 t)) (kOf (iblk m c 0 t) (iblk m c 3 t)) (maskOf (iblk m c 1 t) g)
        (ix4 0 0 i j)
      = pArr m c (ix4 (graph t g) h i j) := by
  refine (probOut_at g h _ _ _ i j).trans ?_
  refine (prob_eq (iblk m c 0 t) (iblk m c 1 t) (iblk m c 2 t) (iblk m c 3 t) g h i _).trans ?_
  have e0 := blk0 m c t g
  have e1 := blk1 m c t g
  have e2 := blk2 m c t
  have e3 := blk3 m c t
  exact (by rw [← e0, ← e1, ← e2, ← e3] : _ = probK (X m c (graph t g)) (M m c (graph t g)) (Wq m c) (Wk m c) h i ⟨j.val, by omega⟩)

theorem final9 (c : Dev nD) : (dats m 0 c).arrAt 9 (cfgs 0).N = pArr m c := by
  refine (dats m 0 c).arrAt_eq_of_covers 9 _ (by decide +kernel) fun t _ y => ?_
  blk_simp
  rw [after0_9, out9_eq]
  revert y
  intro (y : S32x6x90x90.Idx)
  idx_vars y
  have ey : (win0_9.blk t).view.emb (ix4 y0 y1 y2 y3 : S32x6x90x90.Idx) = (ix4 (graph t y0) y1 y2 y3 : S512x6x90x90.Idx) := by
    unfold graph
    blk_ext [idx t]
  refine Eq.trans ?_ (congrArg (pArr m c) ey.symm)
  refine View.canon_ofFn_unit_eq_of_forall (S := S32x6x90x90) (fun n => ![(gOf n).val, (hOf n).val, 0, 0]) S1x1x90x90.size
    (fun n => inbP (gOf n) (hOf n)) _ _ _ ⟨⟨191 - (y0.val * 6 + y1.val), by omega⟩, ?_⟩ ?_
  · have hg : (gOf ⟨191 - (y0.val * 6 + y1.val), by omega⟩).val = y0.val := by
      show (191 - (191 - (y0.val * 6 + y1.val))) / 6 = y0.val; omega
    have hh : (hOf ⟨191 - (y0.val * 6 + y1.val), by omega⟩).val = y1.val := by
      show (191 - (191 - (y0.val * 6 + y1.val))) % 6 = y1.val; omega
    rw [hg, hh]
    intro a
    match a with
    | ⟨0, _⟩ => show y0.val ≤ y0.val ∧ y0.val < y0.val + 1; omega
    | ⟨1, _⟩ => show y1.val ≤ y1.val ∧ y1.val < y1.val + 1; omega
    | ⟨2, _⟩ => show 0 ≤ y2.val ∧ y2.val < 0 + 90; omega
    | ⟨3, _⟩ => show 0 ≤ y3.val ∧ y3.val < 0 + 90; omega
  · intro n x hx
    revert x
    intro (x : S1x1x90x90.Idx) hx
    idx_vars x
    have h0 : y0.val = (gOf n).val + x0.val := hx 0
    have h1 : y1.val = (hOf n).val + x1.val := hx 1
    have h2 : y2.val = 0 + x2.val := hx 2
    have h3 : y3.val = 0 + x3.val := hx 3
    obtain rfl : x0 = 0 := Subsingleton.elim _ _
    obtain rfl : x1 = 0 := Subsingleton.elim _ _
    obtain rfl : y0 = gOf n := Fin.ext (by simpa using h0)
    obtain rfl : y1 = hOf n := Fin.ext (by simpa using h1)
    obtain rfl : y2 = x2 := Fin.ext (by omega)
    obtain rfl : y3 = x3 := Fin.ext (by omega)
    exact stored9 m c t (gOf n) (hOf n) y2 y3

theorem final8 (c : Dev nD) : (dats m 0 c).arrAt 8 (cfgs 0).N = outArr m c := by
  refine (dats m 0 c).arrAt_eq_of_covers 8 _ (by decide +kernel) fun t _ y => ?_
  blk_simp
  rw [after0_8, out8_eq]
  revert y
  intro (y : S32x90x90.Idx)
  idx_vars y
  have ey : (win0_8.blk t).view.emb (ix3 y0 y1 y2 : S32x90x90.Idx) = (ix3 (graph t y0) y1 y2 : S512x90x90.Idx) := by
    unfold graph
    blk_ext [idx t]
  refine Eq.trans ?_ (congrArg (outArr m c) ey.symm)
  frame_out
  refine (out_at (iblk m c 0 t) (iblk m c 1 t) (iblk m c 2 t) (iblk m c 3 t) (iblk m c 4 t) (iblk m c 5 t) (iblk m c 6 t)
    (iblk m c 7 t) y0 y1 y2).trans ?_
  have e0 := blk0 m c t y0
  have e1 := blk1 m c t y0
  have e2 := blk2 m c t
  have e3 := blk3 m c t
  have e4 := blk4 m c t
  have e5 := blk5 m c t
  have e6 := blk6 m c t
  have e7 := blk7 m c t
  exact (by rw [← e0, ← e1, ← e2, ← e3, ← e4, ← e5, ← e6, ← e7] :
    _ = rowK (Wo m c) (W1 m c) (W2 m c)
      (ctxK (X m c (graph t y0)) (M m c (graph t y0)) (Wq m c) (Wk m c) (Wv m c) y1) y2)

end Cert.KernelIdeal.Body

end
-- ==== Proof.Answer.lean ====
/- Both programs, from the same arguments, end with the same two results. -/
module

public import proofs.«01_k».proof.Proof.Given
public import proofs.«01_k».proof.Proof.KernelValue
public import proofs.«01_k».proof.Proof.Gen.ReferenceIdeal.Run
public import proofs.«01_k».proof.Proof.Gen.ReferenceIdeal.Read

@[expose] public section

set_option maxRecDepth 16384

noncomputable section

namespace Cert.Answer

open Idealize.ShloMosaic Idealize.SL.Sem Cert.Model Cert.Given

variable {x0 x1 : FVec Ideal Cert.ReferenceIdeal.S512x90x90 .f32} {x2 : FVec Ideal Cert.ReferenceIdeal.S90x90 .f32}
  {x3 : FVec Ideal Cert.ReferenceIdeal.S90 .f32} {x4 : FVec Ideal Cert.ReferenceIdeal.S90x90 .f32}
  {x5 : FVec Ideal Cert.ReferenceIdeal.S90 .f32} {x6 : FVec Ideal Cert.ReferenceIdeal.S90x90 .f32}
  {x7 : FVec Ideal Cert.ReferenceIdeal.S90 .f32} {x8 : FVec Ideal Cert.ReferenceIdeal.S90x90 .f32}
  {x9 x10 x11 x12 x13 : FVec Ideal Cert.ReferenceIdeal.S90 .f32} {x14 : FVec Ideal Cert.ReferenceIdeal.S90x180 .f32}
  {x15 : FVec Ideal Cert.ReferenceIdeal.S180 .f32} {x16 : FVec Ideal Cert.ReferenceIdeal.S180x90 .f32}
  {x17 : FVec Ideal Cert.ReferenceIdeal.S90 .f32}

open Cert.ReferenceIdeal.Body Cert.ReferenceIdeal.Read

/-- The reference's attention weights are the kernel's. -/
theorem weights_meet (H : Holds x0 x1 x2 x4 x3 x5 x7 x9 x10 x11 x12 x13 x15 x17) (g : Fin 512) (h : Fin 6) (i j : Fin 90) :
    val_main_v35 (F := Ideal) x0 x1 x2 x3 x4 x5 (ix4 g h i j)
      = probK (graph x0 g) (graph x1 g) (mat x2) (mat x4) h i ⟨j.val, by omega⟩ :=
  (weights_at x0 x1 x2 x3 x4 x5 H.bq H.bk g h i j).trans
    (probK_eq _ _ _ _ (H.row g) H.query H.key (H.open_mask g) h i j).symm

/-- The reference's block output is the kernel's. -/
theorem rows_meet (H : Holds x0 x1 x2 x4 x3 x5 x7 x9 x10 x11 x12 x13 x15 x17) (g : Fin 512) (i d : Fin 90) :
    val_main_v113 (F := Ideal) x0 x1 x2 x3 x4 x5 x6 x7 x8 x9 x10 x11 x12 x13 x14 x15 x16 x17 (ix3 g i d)
      = rowK (mat x8) (fun e f => x14 (ix2 e f)) (fun f d => x16 (ix2 f d))
        (ctxK (graph x0 g) (graph x1 g) (mat x2) (mat x4) (mat x6) i) d := by
  rw [out_at x0 x1 x2 x3 x4 x5 x6 x7 x8 x9 x10 x11 x12 x13 x14 x15 x16 x17 H.bq H.bk H.bv H.bo H.gain1 H.shift1 H.gain2
    H.shift2 H.bup H.bdown, rowK_eq]
  congr 1
  funext e
  exact (ctxK_eq _ _ _ _ (H.row g) H.query H.key (H.open_mask g) _ i e).symm

variable (m : (ℓ : Loc Cert.KernelIdeal.nD Cert.KernelIdeal.τ Cert.KernelIdeal.sig) → Buf (Elt Ideal) ℓ)
  (hpre : Cert.Pre_KernelIdeal_as_initialised m) (c : Dev Cert.KernelIdeal.nD)

section
open Cert.KernelIdeal

include hpre

/-- The second result of the reference, from the kernel's arguments, is the kernel's. -/
theorem weights_array : val_main_v35 (F := Ideal) (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    = Cert.KernelIdeal.Body.pArr m c := by
  funext y
  revert y
  intro (y : Cert.ReferenceIdeal.S512x6x90x90.Idx)
  idx_vars y
  exact weights_meet (holds m hpre c) _ _ _ _

/-- The first result of the reference, from the kernel's arguments, is the kernel's. -/
theorem rows_array : val_main_v113 (F := Ideal) (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))
    (m ((c.tc : Thread nD τ).loc main_arg10))
    (m ((c.tc : Thread nD τ).loc main_arg11))
    (m ((c.tc : Thread nD τ).loc main_arg12))
    (m ((c.tc : Thread nD τ).loc main_arg13))
    (m ((c.tc : Thread nD τ).loc main_arg14))
    (m ((c.tc : Thread nD τ).loc main_arg15))
    (m ((c.tc : Thread nD τ).loc main_arg16))
    (m ((c.tc : Thread nD τ).loc main_arg17))
    = Cert.KernelIdeal.Body.outArr m c := by
  funext y
  revert y
  intro (y : Cert.ReferenceIdeal.S512x90x90.Idx)
  idx_vars y
  exact rows_meet (holds m hpre c) _ _ _

end

set_option maxHeartbeats 4000000 in
/-- Run on the same arguments, the two programs end with the same two results. -/
theorem algebraic : Cert.algebraic_KernelIdeal_ReferenceIdeal_pre_as_initialised := by
  pair_intro
  · run_from Cert.KernelIdeal.Gen.run_main m g
  · run_from Cert.ReferenceIdeal.Value.run m' g'
    all_goals obtain ⟨e0, e1, e2, e3, e4, e5, e6, e7, e8, e9, e10, e11, e12, e13, e14, e15, e16, e17⟩ := hagree c
    · rw [← e12, ← e13]
      refine (val_main_v113_eq (StableHlo.launchContents m' c)).trans ?_
      simp only [StableHlo.launchContents]
      rw [e0, e1, e2, e3, e4, e5, e6, e7, e8, e9, e10, e11, e12, e13, e14, e15, e16, e17]
      exact (rows_array m hpre c).trans (Cert.KernelIdeal.Body.final8 m c).symm
    · refine (val_main_v35_eq (StableHlo.launchContents m' c)).trans ?_
      simp only [StableHlo.launchContents]
      rw [e0, e1, e2, e3, e4, e5]
      exact (weights_array m hpre c).trans (Cert.KernelIdeal.Body.final9 m c).symm

end Cert.Answer

end
-- ==== Proof.lean ====
/- The whole claim: the kernel and its reading over extended reals run without fault and keep their arguments, the named
   constants are the words they stand for, and the kernel's two results are the reference's. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_as_initialised
public import proofs.«01_k».proof.Proof.Answer
public import Idealize.ShloMosaic.Adequacy
public import Idealize.ShloMosaic.Init

@[expose] public section

noncomputable section

namespace Cert.Proof

open Idealize.ShloMosaic Idealize.SL.Sem Cert.Kernel

/-- Each named constant's float word is the rounding of the real number it stands for. -/
theorem preserves : Cert.preserves_Kernel_KernelIdeal :=
  ⟨IdealRules.named_const.statement Cert.KernelIdeal.κ "log2e_over_root" .f32 0x3EBEB89E#32 (((Real.log 2)⁻¹ * (Real.sqrt 15)⁻¹ : ℝ) : EReal) rfl,
    IdealRules.named_const.statement Cert.KernelIdeal.κ "log2e" .f32 0x3FB8AA3B#32 (((Real.log 2)⁻¹ : ℝ) : EReal) rfl,
    IdealRules.named_const.statement Cert.KernelIdeal.κ "inv_89" .f32 0x3C381703#32 ((1 / 89 : ℝ) : EReal) rfl⟩

/-- The reference runs without fault and keeps its arguments; it has no semaphore, so no counter is other than zero. -/
theorem reference_frame : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run m ρ)

theorem claim : Cert.Claim :=
  ⟨Cert.Kernel.Gen.facts, Cert.KernelIdeal.Gen.facts, Cert.ReferenceIdeal.Gen.facts, Cert.Pre_as_initialised.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    preserves,
    Cert.Answer.algebraic⟩

end Cert.Proof

end
